-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_l" .f32 0x3BA3D70A#32 ((1 / 200 : ℝ) : EReal)

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S4096x200 : Shape := ⟨2, ![4096, 200]⟩
abbrev S100000x64 : Shape := ⟨2, ![100000, 64]⟩
abbrev S1x64 : Shape := ⟨2, ![1, 64]⟩
abbrev S1 : Shape := ⟨1, ![1]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : IVec S4096x200 32) (main_arg1 : FVec F S100000x64 .f32) (main_arg2 : FVec F S1x64 .f32) (main_arg3 : FVec F S1 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_v6 : FVec F S100000x64 .f32 := Host.absf main_arg1
  let main_cst : FVec F S_ .f32 := constant S_ .f32 0x7F800000#32
  let main_v7 : FVec F S100000x64 .f32 := broadcastInDim S100000x64 ![] bcast_S_S100000x64 main_cst
  let main_v8 : IVec S100000x64 1 := cmpf .olt main_v6 main_v7
  let main_c_2 : IVec S_ 1 := constantI S_ 1 1#1
  let main_v9 : IVec S_ 1 := (fun x v => Host.reduce IntOp.andi x v reducesTo_S100000x64_S_d0_1 h_S_) main_v8 main_c_2
  let main_v10 : IVec S_ 1 := andi main_v5 main_v9
  let main_v11 : FVec F S1x64 .f32 := Host.absf main_arg2
  let main_cst_3 : FVec F S_ .f32 := constant S_ .f32 0x7F800000#32
  let main_v12 : FVec F S1x64 .f32 := broadcastInDim S1x64 ![] bcast_S_S1x64 main_cst_3
  let main_v13 : IVec S1x64 1 := cmpf .olt main_v11 main_v12
  let main_c_4 : IVec S_ 1 := constantI S_ 1 1#1
  let main_v14 : IVec S_ 1 := (fun x v => Host.reduce IntOp.andi x v reducesTo_S1x64_S_d0_1 h_S_) main_v13 main_c_4
  let main_v15 : IVec S_ 1 := andi main_v10 main_v14
  main_v15
-- ==== Kernel.lean ====
abbrev S4096x200 : Shape := ⟨2, ![4096, 200]⟩
abbrev S100000x64 : Shape := ⟨2, ![100000, 64]⟩
abbrev S1x64 : Shape := ⟨2, ![1, 64]⟩
abbrev S1 : Shape := ⟨1, ![1]⟩
abbrev S64x100000 : Shape := ⟨2, ![64, 100000]⟩
abbrev S100000 : Shape := ⟨1, ![100000]⟩
abbrev S64x25600 : Shape := ⟨2, ![64, 25600]⟩
abbrev S25600 : Shape := ⟨1, ![25600]⟩
abbrev S1x25600 : Shape := ⟨2, ![1, 25600]⟩
abbrev S200x4096 : Shape := ⟨2, ![200, 4096]⟩
abbrev S25x8x4096 : Shape := ⟨3, ![25, 8, 4096]⟩
abbrev S4096 : Shape := ⟨1, ![4096]⟩
abbrev S25x8x128 : Shape := ⟨3, ![25, 8, 128]⟩
abbrev S128 : Shape := ⟨1, ![128]⟩
abbrev S_ : Shape := ⟨0, ![]⟩
abbrev S16 : Shape := ⟨1, ![16]⟩
abbrev S1x1x16 : Shape := ⟨3, ![1, 1, 16]⟩

abbrev nBuf : Table → Nat
  | .hbm => 9
  | .local .tc .vmem => 5
  | .local .tc .smem => 1
  | .local .scVector .vmem => 3
  | _ => 0

abbrev bufTy : (tb : Table) → Fin (nBuf tb) → BufTy
  | .hbm, ⟨0, _⟩ => ⟨S4096x200, .i32⟩
  | .hbm, ⟨1, _⟩ => ⟨S100000x64, .f32⟩
  | .hbm, ⟨2, _⟩ => ⟨S1x64, .f32⟩
  | .hbm, ⟨3, _⟩ => ⟨S1, .f32⟩
  | .hbm, ⟨4, _⟩ => ⟨S64x100000, .f32⟩
  | .hbm, ⟨5, _⟩ => ⟨S100000, .f32⟩
  | .hbm, ⟨6, _⟩ => ⟨S200x4096, .i32⟩
  | .hbm, ⟨7, _⟩ => ⟨S25x8x4096, .i32⟩
  | .hbm, ⟨8, _⟩ => ⟨S4096, .f32⟩
  | .local .tc .vmem, ⟨0, _⟩ => ⟨S64x25600, .f32⟩
  | .local .tc .vmem, ⟨1, _⟩ => ⟨S64x25600, .f32⟩
  | .local .tc .vmem, ⟨2, _⟩ => ⟨S1x64, .f32⟩
  | .local .tc .vmem, ⟨3, _⟩ => ⟨S25600, .f32⟩
  | .local .tc .vmem, ⟨4, _⟩ => ⟨S25600, .f32⟩
  | .local .tc .smem, ⟨0, _⟩ => ⟨S1, .f32⟩
  | .local .scVector .vmem, ⟨0, _⟩ => ⟨S100000, .f32⟩
  | .local .scVector .vmem, ⟨1, _⟩ => ⟨S25x8x128, .i32⟩
  | .local .scVector .vmem, ⟨2, _⟩ => ⟨S128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 5, rfl⟩
abbrev main_v3_scv : Ref sig .scVector := ⟨.hbm, 7, rfl⟩
abbrev main_v4_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S64x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S25600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 3 → Nat :=
  let c0_i32 : BitVec 32 := 0#32
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, v2.toNat]
@[reducible] def k1_t1_loop : Scf.Loop 32 :=
  let c0_i32_7 : BitVec 32 := 0#32
  let c25_i32 : BitVec 32 := 25#32
  let v8 : BitVec 32 := Scalar.addi c0_i32_7 c25_i32
  let c1_i32 : BitVec 32 := 1#32
  ⟨c0_i32_7, v8, c1_i32⟩
def k1_off2 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v92 : Index := Scalar.indexCast v91
  let c0_i32_43 : BitVec 32 := 0#32
  let v93 : Index := Scalar.indexCast c0_i32_43
  let c0_44 : Index := 0#32
  ![v92.toNat, 0, 0]
def k1_off3 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v95 : Index := Scalar.indexCast v91
  let c0_i32_45 : BitVec 32 := 0#32
  let v96 : Index := Scalar.indexCast c0_i32_45
  let c16_46 : Index := 16#32
  ![v95.toNat, 0, 16]
def k1_off4 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v98 : Index := Scalar.indexCast v91
  let c0_i32_47 : BitVec 32 := 0#32
  let v99 : Index := Scalar.indexCast c0_i32_47
  let c32_48 : Index := 32#32
  ![v98.toNat, 0, 32]
def k1_off5 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v101 : Index := Scalar.indexCast v91
  let c0_i32_49 : BitVec 32 := 0#32
  let v102 : Index := Scalar.indexCast c0_i32_49
  let c48_50 : Index := 48#32
  ![v101.toNat, 0, 48]
def k1_off6 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v104 : Index := Scalar.indexCast v91
  let c0_i32_51 : BitVec 32 := 0#32
  let v105 : Index := Scalar.indexCast c0_i32_51
  let c64_52 : Index := 64#32
  ![v104.toNat, 0, 64]
def k1_off7 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v107 : Index := Scalar.indexCast v91
  let c0_i32_53 : BitVec 32 := 0#32
  let v108 : Index := Scalar.indexCast c0_i32_53
  let c80_54 : Index := 80#32
  ![v107.toNat, 0, 80]
def k1_off8 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v110 : Index := Scalar.indexCast v91
  let c0_i32_55 : BitVec 32 := 0#32
  let v111 : Index := Scalar.indexCast c0_i32_55
  let c96_56 : Index := 96#32
  ![v110.toNat, 0, 96]
def k1_off9 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v113 : Index := Scalar.indexCast v91
  let c0_i32_57 : BitVec 32 := 0#32
  let v114 : Index := Scalar.indexCast c0_i32_57
  let c112_58 : Index := 112#32
  ![v113.toNat, 0, 112]

def k1_chk1 (v94 : IVec S16 32) : Prop :=
  (∀ a x, ((![v94] : Fin 1 → IVec S16 32) a x).toNat < S100000.size a)
theorem k1_idx1_inb : ∀ (v94 : IVec S16 32) (k1_hw1 : k1_chk1 v94), ∀ a x, ((![v94] : Fin 1 → IVec S16 32) a x).toNat < S100000.size a := fun v94 k1_hw1 => k1_hw1

def k1_chk2 (v97 : IVec S16 32) : Prop :=
  (∀ a x, ((![v97] : Fin 1 → IVec S16 32) a x).toNat < S100000.size a)
theorem k1_idx2_inb : ∀ (v97 : IVec S16 32) (k1_hw2 : k1_chk2 v97), ∀ a x, ((![v97] : Fin 1 → IVec S16 32) a x).toNat < S100000.size a := fun v97 k1_hw2 => k1_hw2

def k1_chk3 (v100 : IVec S16 32) : Prop :=
  (∀ a x, ((![v100] : Fin 1 → IVec S16 32) a x).toNat < S100000.size a)
theorem k1_idx3_inb : ∀ (v100 : IVec S16 32) (k1_hw3 : k1_chk3 v100), ∀ a x, ((![v100] : Fin 1 → IVec S16 32) a x).toNat < S100000.size a := fun v100 k1_hw3 => k1_hw3

def k1_chk4 (v103 : IVec S16 32) : Prop :=
  (∀ a x, ((![v103] : Fin 1 → IVec S16 32) a x).toNat < S100000.size a)
theorem k1_idx4_inb : ∀ (v103 : IVec S16 32) (k1_hw4 : k1_chk4 v103), ∀ a x, ((![v103] : Fin 1 → IVec S16 32) a x).toNat < S100000.size a := fun v103 k1_hw4 => k1_hw4

def k1_chk5 (v106 : IVec S16 32) : Prop :=
  (∀ a x, ((![v106] : Fin 1 → IVec S16 32) a x).toNat < S100000.size a)
theorem k1_idx5_inb : ∀ (v106 : IVec S16 32) (k1_hw5 : k1_chk5 v106), ∀ a x, ((![v106] : Fin 1 → IVec S16 32) a x).toNat < S100000.size a := fun v106 k1_hw5 => k1_hw5

def k1_chk6 (v109 : IVec S16 32) : Prop :=
  (∀ a x, ((![v109] : Fin 1 → IVec S16 32) a x).toNat < S100000.size a)
theorem k1_idx6_inb : ∀ (v109 : IVec S16 32) (k1_hw6 : k1_chk6 v109), ∀ a x, ((![v109] : Fin 1 → IVec S16 32) a x).toNat < S100000.size a := fun v109 k1_hw6 => k1_hw6

def k1_chk7 (v112 : IVec S16 32) : Prop :=
  (∀ a x, ((![v112] : Fin 1 → IVec S16 32) a x).toNat < S100000.size a)
theorem k1_idx7_inb : ∀ (v112 : IVec S16 32) (k1_hw7 : k1_chk7 v112), ∀ a x, ((![v112] : Fin 1 → IVec S16 32) a x).toNat < S100000.size a := fun v112 k1_hw7 => k1_hw7

def k1_chk8 (v115 : IVec S16 32) : Prop :=
  (∀ a x, ((![v115] : Fin 1 → IVec S16 32) a x).toNat < S100000.size a)
theorem k1_idx8_inb : ∀ (v115 : IVec S16 32) (k1_hw8 : k1_chk8 v115), ∀ a x, ((![v115] : Fin 1 → IVec S16 32) a x).toNat < S100000.size a := fun v115 k1_hw8 => k1_hw8
def k1_off10 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v132 : Index := Scalar.indexCast v91
  let c1_i32_59 : BitVec 32 := 1#32
  let v133 : Index := Scalar.indexCast c1_i32_59
  let c0_60 : Index := 0#32
  ![v132.toNat, 1, 0]
def k1_off11 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v135 : Index := Scalar.indexCast v91
  let c1_i32_61 : BitVec 32 := 1#32
  let v136 : Index := Scalar.indexCast c1_i32_61
  let c16_62 : Index := 16#32
  ![v135.toNat, 1, 16]
def k1_off12 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v138 : Index := Scalar.indexCast v91
  let c1_i32_63 : BitVec 32 := 1#32
  let v139 : Index := Scalar.indexCast c1_i32_63
  let c32_64 : Index := 32#32
  ![v138.toNat, 1, 32]
def k1_off13 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v141 : Index := Scalar.indexCast v91
  let c1_i32_65 : BitVec 32 := 1#32
  let v142 : Index := Scalar.indexCast c1_i32_65
  let c48_66 : Index := 48#32
  ![v141.toNat, 1, 48]
def k1_off14 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v144 : Index := Scalar.indexCast v91
  let c1_i32_67 : BitVec 32 := 1#32
  let v145 : Index := Scalar.indexCast c1_i32_67
  let c64_68 : Index := 64#32
  ![v144.toNat, 1, 64]
def k1_off15 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v147 : Index := Scalar.indexCast v91
  let c1_i32_69 : BitVec 32 := 1#32
  let v148 : Index := Scalar.indexCast c1_i32_69
  let c80_70 : Index := 80#32
  ![v147.toNat, 1, 80]
def k1_off16 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v150 : Index := Scalar.indexCast v91
  let c1_i32_71 : BitVec 32 := 1#32
  let v151 : Index := Scalar.indexCast c1_i32_71
  let c96_72 : Index := 96#32
  ![v150.toNat, 1, 96]
def k1_off17 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v153 : Index := Scalar.indexCast v91
  let c1_i32_73 : BitVec 32 := 1#32
  let v154 : Index := Scalar.indexCast c1_i32_73
  let c112_74 : Index := 112#32
  ![v153.toNat, 1, 112]

def k1_chk9 (v134 : IVec S16 32) : Prop :=
  (∀ a x, ((![v134] : Fin 1 → IVec S16 32) a x).toNat < S100000.size a)
theorem k1_idx9_inb : ∀ (v134 : IVec S16 32) (k1_hw9 : k1_chk9 v134), ∀ a x, ((![v134] : Fin 1 → IVec S16 32) a x).toNat < S100000.size a := fun v134 k1_hw9 => k1_hw9

def k1_chk10 (v137 : IVec S16 32) : Prop :=
  (∀ a x, ((![v137] : Fin 1 → IVec S16 32) a x).toNat < S100000.size a)
theorem k1_idx10_inb : ∀ (v137 : IVec S16 32) (k1_hw10 : k1_chk10 v137), ∀ a x, ((![v137] : Fin 1 → IVec S16 32) a x).toNat < S100000.size a := fun v137 k1_hw10 => k1_hw10

def k1_chk11 (v140 : IVec S16 32) : Prop :=
  (∀ a x, ((![v140] : Fin 1 → IVec S16 32) a x).toNat < S100000.size a)
theorem k1_idx11_inb : ∀ (v140 : IVec S16 32) (k1_hw11 : k1_chk11 v140), ∀ a x, ((![v140] : Fin 1 → IVec S16 32) a x).toNat < S100000.size a := fun v140 k1_hw11 => k1_hw11

def k1_chk12 (v143 : IVec S16 32) : Prop :=
  (∀ a x, ((![v143] : Fin 1 → IVec S16 32) a x).toNat < S100000.size a)
theorem k1_idx12_inb : ∀ (v143 : IVec S16 32) (k1_hw12 : k1_chk12 v143), ∀ a x, ((![v143] : Fin 1 → IVec S16 32) a x).toNat < S100000.size a := fun v143 k1_hw12 => k1_hw12

def k1_chk13 (v146 : IVec S16 32) : Prop :=
  (∀ a x, ((![v146] : Fin 1 → IVec S16 32) a x).toNat < S100000.size a)
theorem k1_idx13_inb : ∀ (v146 : IVec S16 32) (k1_hw13 : k1_chk13 v146), ∀ a x, ((![v146] : Fin 1 → IVec S16 32) a x).toNat < S100000.size a := fun v146 k1_hw13 => k1_hw13

def k1_chk14 (v149 : IVec S16 32) : Prop :=
  (∀ a x, ((![v149] : Fin 1 → IVec S16 32) a x).toNat < S100000.size a)
theorem k1_idx14_inb : ∀ (v149 : IVec S16 32) (k1_hw14 : k1_chk14 v149), ∀ a x, ((![v149] : Fin 1 → IVec S16 32) a x).toNat < S100000.size a := fun v149 k1_hw14 => k1_hw14

def k1_chk15 (v152 : IVec S16 32) : Prop :=
  (∀ a x, ((![v152] : Fin 1 → IVec S16 32) a x).toNat < S100000.size a)
theorem k1_idx15_inb : ∀ (v152 : IVec S16 32) (k1_hw15 : k1_chk15 v152), ∀ a x, ((![v152] : Fin 1 → IVec S16 32) a x).toNat < S100000.size a := fun v152 k1_hw15 => k1_hw15

def k1_chk16 (v155 : IVec S16 32) : Prop :=
  (∀ a x, ((![v155] : Fin 1 → IVec S16 32) a x).toNat < S100000.size a)
theorem k1_idx16_inb : ∀ (v155 : IVec S16 32) (k1_hw16 : k1_chk16 v155), ∀ a x, ((![v155] : Fin 1 → IVec S16 32) a x).toNat < S100000.size a := fun v155 k1_hw16 => k1_hw16
def k1_off18 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v172 : Index := Scalar.indexCast v91
  let c2_i32_75 : BitVec 32 := 2#32
  let v173 : Index := Scalar.indexCast c2_i32_75
  let c0_76 : Index := 0#32
  ![v172.toNat, 2, 0]
def k1_off19 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v175 : Index := Scalar.indexCast v91
  let c2_i32_77 : BitVec 32 := 2#32
  let v176 : Index := Scalar.indexCast c2_i32_77
  let c16_78 : Index := 16#32
  ![v175.toNat, 2, 16]
def k1_off20 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v178 : Index := Scalar.indexCast v91
  let c2_i32_79 : BitVec 32 := 2#32
  let v179 : Index := Scalar.indexCast c2_i32_79
  let c32_80 : Index := 32#32
  ![v178.toNat, 2, 32]
def k1_off21 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v181 : Index := Scalar.indexCast v91
  let c2_i32_81 : BitVec 32 := 2#32
  let v182 : Index := Scalar.indexCast c2_i32_81
  let c48_82 : Index := 48#32
  ![v181.toNat, 2, 48]
def k1_off22 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v184 : Index := Scalar.indexCast v91
  let c2_i32_83 : BitVec 32 := 2#32
  let v185 : Index := Scalar.indexCast c2_i32_83
  let c64_84 : Index := 64#32
  ![v184.toNat, 2, 64]
def k1_off23 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v187 : Index := Scalar.indexCast v91
  let c2_i32_85 : BitVec 32 := 2#32
  let v188 : Index := Scalar.indexCast c2_i32_85
  let c80_86 : Index := 80#32
  ![v187.toNat, 2, 80]
def k1_off24 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v190 : Index := Scalar.indexCast v91
  let c2_i32_87 : BitVec 32 := 2#32
  let v191 : Index := Scalar.indexCast c2_i32_87
  let c96_88 : Index := 96#32
  ![v190.toNat, 2, 96]
def k1_off25 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v193 : Index := Scalar.indexCast v91
  let c2_i32_89 : BitVec 32 := 2#32
  let v194 : Index := Scalar.indexCast c2_i32_89
  let c112_90 : Index := 112#32
  ![v193.toNat, 2, 112]

def k1_chk17 (v174 : IVec S16 32) : Prop :=
  (∀ a x, ((![v174] : Fin 1 → IVec S16 32) a x).toNat < S100000.size a)
theorem k1_idx17_inb : ∀ (v174 : IVec S16 32) (k1_hw17 : k1_chk17 v174), ∀ a x, ((![v174] : Fin 1 → IVec S16 32) a x).toNat < S100000.size a := fun v174 k1_hw17 => k1_hw17

def k1_chk18 (v177 : IVec S16 32) : Prop :=
  (∀ a x, ((![v177] : Fin 1 → IVec S16 32) a x).toNat < S100000.size a)
theorem k1_idx18_inb : ∀ (v177 : IVec S16 32) (k1_hw18 : k1_chk18 v177), ∀ a x, ((![v177] : Fin 1 → IVec S16 32) a x).toNat < S100000.size a := fun v177 k1_hw18 => k1_hw18

def k1_chk19 (v180 : IVec S16 32) : Prop :=
  (∀ a x, ((![v180] : Fin 1 → IVec S16 32) a x).toNat < S100000.size a)
theorem k1_idx19_inb : ∀ (v180 : IVec S16 32) (k1_hw19 : k1_chk19 v180), ∀ a x, ((![v180] : Fin 1 → IVec S16 32) a x).toNat < S100000.size a := fun v180 k1_hw19 => k1_hw19

def k1_chk20 (v183 : IVec S16 32) : Prop :=
  (∀ a x, ((![v183] : Fin 1 → IVec S16 32) a x).toNat < S100000.size a)
theorem k1_idx20_inb : ∀ (v183 : IVec S16 32) (k1_hw20 : k1_chk20 v183), ∀ a x, ((![v183] : Fin 1 → IVec S16 32) a x).toNat < S100000.size a := fun v183 k1_hw20 => k1_hw20

def k1_chk21 (v186 : IVec S16 32) : Prop :=
  (∀ a x, ((![v186] : Fin 1 → IVec S16 32) a x).toNat < S100000.size a)
theorem k1_idx21_inb : ∀ (v186 : IVec S16 32) (k1_hw21 : k1_chk21 v186), ∀ a x, ((![v186] : Fin 1 → IVec S16 32) a x).toNat < S100000.size a := fun v186 k1_hw21 => k1_hw21

def k1_chk22 (v189 : IVec S16 32) : Prop :=
  (∀ a x, ((![v189] : Fin 1 → IVec S16 32) a x).toNat < S100000.size a)
theorem k1_idx22_inb : ∀ (v189 : IVec S16 32) (k1_hw22 : k1_chk22 v189), ∀ a x, ((![v189] : Fin 1 → IVec S16 32) a x).toNat < S100000.size a := fun v189 k1_hw22 => k1_hw22

def k1_chk23 (v192 : IVec S16 32) : Prop :=
  (∀ a x, ((![v192] : Fin 1 → IVec S16 32) a x).toNat < S100000.size a)
theorem k1_idx23_inb : ∀ (v192 : IVec S16 32) (k1_hw23 : k1_chk23 v192), ∀ a x, ((![v192] : Fin 1 → IVec S16 32) a x).toNat < S100000.size a := fun v192 k1_hw23 => k1_hw23

def k1_chk24 (v195 : IVec S16 32) : Prop :=
  (∀ a x, ((![v195] : Fin 1 → IVec S16 32) a x).toNat < S100000.size a)
theorem k1_idx24_inb : ∀ (v195 : IVec S16 32) (k1_hw24 : k1_chk24 v195), ∀ a x, ((![v195] : Fin 1 → IVec S16 32) a x).toNat < S100000.size a := fun v195 k1_hw24 => k1_hw24
def k1_off26 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v212 : Index := Scalar.indexCast v91
  let c3_i32 : BitVec 32 := 3#32
  let v213 : Index := Scalar.indexCast c3_i32
  let c0_91 : Index := 0#32
  ![v212.toNat, 3, 0]
def k1_off27 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v215 : Index := Scalar.indexCast v91
  let c3_i32_92 : BitVec 32 := 3#32
  let v216 : Index := Scalar.indexCast c3_i32_92
  let c16_93 : Index := 16#32
  ![v215.toNat, 3, 16]
def k1_off28 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v218 : Index := Scalar.indexCast v91
  let c3_i32_94 : BitVec 32 := 3#32
  let v219 : Index := Scalar.indexCast c3_i32_94
  let c32_95 : Index := 32#32
  ![v218.toNat, 3, 32]
def k1_off29 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v221 : Index := Scalar.indexCast v91
  let c3_i32_96 : BitVec 32 := 3#32
  let v222 : Index := Scalar.indexCast c3_i32_96
  let c48_97 : Index := 48#32
  ![v221.toNat, 3, 48]
def k1_off30 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v224 : Index := Scalar.indexCast v91
  let c3_i32_98 : BitVec 32 := 3#32
  let v225 : Index := Scalar.indexCast c3_i32_98
  let c64_99 : Index := 64#32
  ![v224.toNat, 3, 64]
def k1_off31 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v227 : Index := Scalar.indexCast v91
  let c3_i32_100 : BitVec 32 := 3#32
  let v228 : Index := Scalar.indexCast c3_i32_100
  let c80_101 : Index := 80#32
  ![v227.toNat, 3, 80]
def k1_off32 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v230 : Index := Scalar.indexCast v91
  let c3_i32_102 : BitVec 32 := 3#32
  let v231 : Index := Scalar.indexCast c3_i32_102
  let c96_103 : Index := 96#32
  ![v230.toNat, 3, 96]
def k1_off33 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v233 : Index := Scalar.indexCast v91
  let c3_i32_104 : BitVec 32 := 3#32
  let v234 : Index := Scalar.indexCast c3_i32_104
  let c112_105 : Index := 112#32
  ![v233.toNat, 3, 112]

def k1_chk25 (v214 : IVec S16 32) : Prop :=
  (∀ a x, ((![v214] : Fin 1 → IVec S16 32) a x).toNat < S100000.size a)
theorem k1_idx25_inb : ∀ (v214 : IVec S16 32) (k1_hw25 : k1_chk25 v214), ∀ a x, ((![v214] : Fin 1 → IVec S16 32) a x).toNat < S100000.size a := fun v214 k1_hw25 => k1_hw25

def k1_chk26 (v217 : IVec S16 32) : Prop :=
  (∀ a x, ((![v217] : Fin 1 → IVec S16 32) a x).toNat < S100000.size a)
theorem k1_idx26_inb : ∀ (v217 : IVec S16 32) (k1_hw26 : k1_chk26 v217), ∀ a x, ((![v217] : Fin 1 → IVec S16 32) a x).toNat < S100000.size a := fun v217 k1_hw26 => k1_hw26

def k1_chk27 (v220 : IVec S16 32) : Prop :=
  (∀ a x, ((![v220] : Fin 1 → IVec S16 32) a x).toNat < S100000.size a)
theorem k1_idx27_inb : ∀ (v220 : IVec S16 32) (k1_hw27 : k1_chk27 v220), ∀ a x, ((![v220] : Fin 1 → IVec S16 32) a x).toNat < S100000.size a := fun v220 k1_hw27 => k1_hw27

def k1_chk28 (v223 : IVec S16 32) : Prop :=
  (∀ a x, ((![v223] : Fin 1 → IVec S16 32) a x).toNat < S100000.size a)
theorem k1_idx28_inb : ∀ (v223 : IVec S16 32) (k1_hw28 : k1_chk28 v223), ∀ a x, ((![v223] : Fin 1 → IVec S16 32) a x).toNat < S100000.size a := fun v223 k1_hw28 => k1_hw28

def k1_chk29 (v226 : IVec S16 32) : Prop :=
  (∀ a x, ((![v226] : Fin 1 → IVec S16 32) a x).toNat < S100000.size a)
theorem k1_idx29_inb : ∀ (v226 : IVec S16 32) (k1_hw29 : k1_chk29 v226), ∀ a x, ((![v226] : Fin 1 → IVec S16 32) a x).toNat < S100000.size a := fun v226 k1_hw29 => k1_hw29

def k1_chk30 (v229 : IVec S16 32) : Prop :=
  (∀ a x, ((![v229] : Fin 1 → IVec S16 32) a x).toNat < S100000.size a)
theorem k1_idx30_inb : ∀ (v229 : IVec S16 32) (k1_hw30 : k1_chk30 v229), ∀ a x, ((![v229] : Fin 1 → IVec S16 32) a x).toNat < S100000.size a := fun v229 k1_hw30 => k1_hw30

def k1_chk31 (v232 : IVec S16 32) : Prop :=
  (∀ a x, ((![v232] : Fin 1 → IVec S16 32) a x).toNat < S100000.size a)
theorem k1_idx31_inb : ∀ (v232 : IVec S16 32) (k1_hw31 : k1_chk31 v232), ∀ a x, ((![v232] : Fin 1 → IVec S16 32) a x).toNat < S100000.size a := fun v232 k1_hw31 => k1_hw31

def k1_chk32 (v235 : IVec S16 32) : Prop :=
  (∀ a x, ((![v235] : Fin 1 → IVec S16 32) a x).toNat < S100000.size a)
theorem k1_idx32_inb : ∀ (v235 : IVec S16 32) (k1_hw32 : k1_chk32 v235), ∀ a x, ((![v235] : Fin 1 → IVec S16 32) a x).toNat < S100000.size a := fun v235 k1_hw32 => k1_hw32
def k1_off34 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v252 : Index := Scalar.indexCast v91
  let c4_i32 : BitVec 32 := 4#32
  let v253 : Index := Scalar.indexCast c4_i32
  let c0_106 : Index := 0#32
  ![v252.toNat, 4, 0]
def k1_off35 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v255 : Index := Scalar.indexCast v91
  let c4_i32_107 : BitVec 32 := 4#32
  let v256 : Index := Scalar.indexCast c4_i32_107
  let c16_108 : Index := 16#32
  ![v255.toNat, 4, 16]
def k1_off36 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v258 : Index := Scalar.indexCast v91
  let c4_i32_109 : BitVec 32 := 4#32
  let v259 : Index := Scalar.indexCast c4_i32_109
  let c32_110 : Index := 32#32
  ![v258.toNat, 4, 32]
def k1_off37 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v261 : Index := Scalar.indexCast v91
  let c4_i32_111 : BitVec 32 := 4#32
  let v262 : Index := Scalar.indexCast c4_i32_111
  let c48_112 : Index := 48#32
  ![v261.toNat, 4, 48]
def k1_off38 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v264 : Index := Scalar.indexCast v91
  let c4_i32_113 : BitVec 32 := 4#32
  let v265 : Index := Scalar.indexCast c4_i32_113
  let c64_114 : Index := 64#32
  ![v264.toNat, 4, 64]
def k1_off39 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v267 : Index := Scalar.indexCast v91
  let c4_i32_115 : BitVec 32 := 4#32
  let v268 : Index := Scalar.indexCast c4_i32_115
  let c80_116 : Index := 80#32
  ![v267.toNat, 4, 80]
def k1_off40 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v270 : Index := Scalar.indexCast v91
  let c4_i32_117 : BitVec 32 := 4#32
  let v271 : Index := Scalar.indexCast c4_i32_117
  let c96_118 : Index := 96#32
  ![v270.toNat, 4, 96]
def k1_off41 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v273 : Index := Scalar.indexCast v91
  let c4_i32_119 : BitVec 32 := 4#32
  let v274 : Index := Scalar.indexCast c4_i32_119
  let c112_120 : Index := 112#32
  ![v273.toNat, 4, 112]

def k1_chk33 (v254 : IVec S16 32) : Prop :=
  (∀ a x, ((![v254] : Fin 1 → IVec S16 32) a x).toNat < S100000.size a)
theorem k1_idx33_inb : ∀ (v254 : IVec S16 32) (k1_hw33 : k1_chk33 v254), ∀ a x, ((![v254] : Fin 1 → IVec S16 32) a x).toNat < S100000.size a := fun v254 k1_hw33 => k1_hw33

def k1_chk34 (v257 : IVec S16 32) : Prop :=
  (∀ a x, ((![v257] : Fin 1 → IVec S16 32) a x).toNat < S100000.size a)
theorem k1_idx34_inb : ∀ (v257 : IVec S16 32) (k1_hw34 : k1_chk34 v257), ∀ a x, ((![v257] : Fin 1 → IVec S16 32) a x).toNat < S100000.size a := fun v257 k1_hw34 => k1_hw34

def k1_chk35 (v260 : IVec S16 32) : Prop :=
  (∀ a x, ((![v260] : Fin 1 → IVec S16 32) a x).toNat < S100000.size a)
theorem k1_idx35_inb : ∀ (v260 : IVec S16 32) (k1_hw35 : k1_chk35 v260), ∀ a x, ((![v260] : Fin 1 → IVec S16 32) a x).toNat < S100000.size a := fun v260 k1_hw35 => k1_hw35

def k1_chk36 (v263 : IVec S16 32) : Prop :=
  (∀ a x, ((![v263] : Fin 1 → IVec S16 32) a x).toNat < S100000.size a)
theorem k1_idx36_inb : ∀ (v263 : IVec S16 32) (k1_hw36 : k1_chk36 v263), ∀ a x, ((![v263] : Fin 1 → IVec S16 32) a x).toNat < S100000.size a := fun v263 k1_hw36 => k1_hw36

def k1_chk37 (v266 : IVec S16 32) : Prop :=
  (∀ a x, ((![v266] : Fin 1 → IVec S16 32) a x).toNat < S100000.size a)
theorem k1_idx37_inb : ∀ (v266 : IVec S16 32) (k1_hw37 : k1_chk37 v266), ∀ a x, ((![v266] : Fin 1 → IVec S16 32) a x).toNat < S100000.size a := fun v266 k1_hw37 => k1_hw37

def k1_chk38 (v269 : IVec S16 32) : Prop :=
  (∀ a x, ((![v269] : Fin 1 → IVec S16 32) a x).toNat < S100000.size a)
theorem k1_idx38_inb : ∀ (v269 : IVec S16 32) (k1_hw38 : k1_chk38 v269), ∀ a x, ((![v269] : Fin 1 → IVec S16 32) a x).toNat < S100000.size a := fun v269 k1_hw38 => k1_hw38

def k1_chk39 (v272 : IVec S16 32) : Prop :=
  (∀ a x, ((![v272] : Fin 1 → IVec S16 32) a x).toNat < S100000.size a)
theorem k1_idx39_inb : ∀ (v272 : IVec S16 32) (k1_hw39 : k1_chk39 v272), ∀ a x, ((![v272] : Fin 1 → IVec S16 32) a x).toNat < S100000.size a := fun v272 k1_hw39 => k1_hw39

def k1_chk40 (v275 : IVec S16 32) : Prop :=
  (∀ a x, ((![v275] : Fin 1 → IVec S16 32) a x).toNat < S100000.size a)
theorem k1_idx40_inb : ∀ (v275 : IVec S16 32) (k1_hw40 : k1_chk40 v275), ∀ a x, ((![v275] : Fin 1 → IVec S16 32) a x).toNat < S100000.size a := fun v275 k1_hw40 => k1_hw40
def k1_off42 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v292 : Index := Scalar.indexCast v91
  let c5_i32 : BitVec 32 := 5#32
  let v293 : Index := Scalar.indexCast c5_i32
  let c0_121 : Index := 0#32
  ![v292.toNat, 5, 0]
def k1_off43 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v295 : Index := Scalar.indexCast v91
  let c5_i32_122 : BitVec 32 := 5#32
  let v296 : Index := Scalar.indexCast c5_i32_122
  let c16_123 : Index := 16#32
  ![v295.toNat, 5, 16]
def k1_off44 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v298 : Index := Scalar.indexCast v91
  let c5_i32_124 : BitVec 32 := 5#32
  let v299 : Index := Scalar.indexCast c5_i32_124
  let c32_125 : Index := 32#32
  ![v298.toNat, 5, 32]
def k1_off45 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v301 : Index := Scalar.indexCast v91
  let c5_i32_126 : BitVec 32 := 5#32
  let v302 : Index := Scalar.indexCast c5_i32_126
  let c48_127 : Index := 48#32
  ![v301.toNat, 5, 48]
def k1_off46 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v304 : Index := Scalar.indexCast v91
  let c5_i32_128 : BitVec 32 := 5#32
  let v305 : Index := Scalar.indexCast c5_i32_128
  let c64_129 : Index := 64#32
  ![v304.toNat, 5, 64]
def k1_off47 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v307 : Index := Scalar.indexCast v91
  let c5_i32_130 : BitVec 32 := 5#32
  let v308 : Index := Scalar.indexCast c5_i32_130
  let c80_131 : Index := 80#32
  ![v307.toNat, 5, 80]
def k1_off48 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v310 : Index := Scalar.indexCast v91
  let c5_i32_132 : BitVec 32 := 5#32
  let v311 : Index := Scalar.indexCast c5_i32_132
  let c96_133 : Index := 96#32
  ![v310.toNat, 5, 96]
def k1_off49 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v313 : Index := Scalar.indexCast v91
  let c5_i32_134 : BitVec 32 := 5#32
  let v314 : Index := Scalar.indexCast c5_i32_134
  let c112_135 : Index := 112#32
  ![v313.toNat, 5, 112]

def k1_chk41 (v294 : IVec S16 32) : Prop :=
  (∀ a x, ((![v294] : Fin 1 → IVec S16 32) a x).toNat < S100000.size a)
theorem k1_idx41_inb : ∀ (v294 : IVec S16 32) (k1_hw41 : k1_chk41 v294), ∀ a x, ((![v294] : Fin 1 → IVec S16 32) a x).toNat < S100000.size a := fun v294 k1_hw41 => k1_hw41

def k1_chk42 (v297 : IVec S16 32) : Prop :=
  (∀ a x, ((![v297] : Fin 1 → IVec S16 32) a x).toNat < S100000.size a)
theorem k1_idx42_inb : ∀ (v297 : IVec S16 32) (k1_hw42 : k1_chk42 v297), ∀ a x, ((![v297] : Fin 1 → IVec S16 32) a x).toNat < S100000.size a := fun v297 k1_hw42 => k1_hw42

def k1_chk43 (v300 : IVec S16 32) : Prop :=
  (∀ a x, ((![v300] : Fin 1 → IVec S16 32) a x).toNat < S100000.size a)
theorem k1_idx43_inb : ∀ (v300 : IVec S16 32) (k1_hw43 : k1_chk43 v300), ∀ a x, ((![v300] : Fin 1 → IVec S16 32) a x).toNat < S100000.size a := fun v300 k1_hw43 => k1_hw43

def k1_chk44 (v303 : IVec S16 32) : Prop :=
  (∀ a x, ((![v303] : Fin 1 → IVec S16 32) a x).toNat < S100000.size a)
theorem k1_idx44_inb : ∀ (v303 : IVec S16 32) (k1_hw44 : k1_chk44 v303), ∀ a x, ((![v303] : Fin 1 → IVec S16 32) a x).toNat < S100000.size a := fun v303 k1_hw44 => k1_hw44

def k1_chk45 (v306 : IVec S16 32) : Prop :=
  (∀ a x, ((![v306] : Fin 1 → IVec S16 32) a x).toNat < S100000.size a)
theorem k1_idx45_inb : ∀ (v306 : IVec S16 32) (k1_hw45 : k1_chk45 v306), ∀ a x, ((![v306] : Fin 1 → IVec S16 32) a x).toNat < S100000.size a := fun v306 k1_hw45 => k1_hw45

def k1_chk46 (v309 : IVec S16 32) : Prop :=
  (∀ a x, ((![v309] : Fin 1 → IVec S16 32) a x).toNat < S100000.size a)
theorem k1_idx46_inb : ∀ (v309 : IVec S16 32) (k1_hw46 : k1_chk46 v309), ∀ a x, ((![v309] : Fin 1 → IVec S16 32) a x).toNat < S100000.size a := fun v309 k1_hw46 => k1_hw46

def k1_chk47 (v312 : IVec S16 32) : Prop :=
  (∀ a x, ((![v312] : Fin 1 → IVec S16 32) a x).toNat < S100000.size a)
theorem k1_idx47_inb : ∀ (v312 : IVec S16 32) (k1_hw47 : k1_chk47 v312), ∀ a x, ((![v312] : Fin 1 → IVec S16 32) a x).toNat < S100000.size a := fun v312 k1_hw47 => k1_hw47

def k1_chk48 (v315 : IVec S16 32) : Prop :=
  (∀ a x, ((![v315] : Fin 1 → IVec S16 32) a x).toNat < S100000.size a)
theorem k1_idx48_inb : ∀ (v315 : IVec S16 32) (k1_hw48 : k1_chk48 v315), ∀ a x, ((![v315] : Fin 1 → IVec S16 32) a x).toNat < S100000.size a := fun v315 k1_hw48 => k1_hw48
def k1_off50 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v332 : Index := Scalar.indexCast v91
  let c6_i32 : BitVec 32 := 6#32
  let v333 : Index := Scalar.indexCast c6_i32
  let c0_136 : Index := 0#32
  ![v332.toNat, 6, 0]
def k1_off51 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v335 : Index := Scalar.indexCast v91
  let c6_i32_137 : BitVec 32 := 6#32
  let v336 : Index := Scalar.indexCast c6_i32_137
  let c16_138 : Index := 16#32
  ![v335.toNat, 6, 16]
def k1_off52 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v338 : Index := Scalar.indexCast v91
  let c6_i32_139 : BitVec 32 := 6#32
  let v339 : Index := Scalar.indexCast c6_i32_139
  let c32_140 : Index := 32#32
  ![v338.toNat, 6, 32]
def k1_off53 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v341 : Index := Scalar.indexCast v91
  let c6_i32_141 : BitVec 32 := 6#32
  let v342 : Index := Scalar.indexCast c6_i32_141
  let c48_142 : Index := 48#32
  ![v341.toNat, 6, 48]
def k1_off54 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v344 : Index := Scalar.indexCast v91
  let c6_i32_143 : BitVec 32 := 6#32
  let v345 : Index := Scalar.indexCast c6_i32_143
  let c64_144 : Index := 64#32
  ![v344.toNat, 6, 64]
def k1_off55 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v347 : Index := Scalar.indexCast v91
  let c6_i32_145 : BitVec 32 := 6#32
  let v348 : Index := Scalar.indexCast c6_i32_145
  let c80_146 : Index := 80#32
  ![v347.toNat, 6, 80]
def k1_off56 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v350 : Index := Scalar.indexCast v91
  let c6_i32_147 : BitVec 32 := 6#32
  let v351 : Index := Scalar.indexCast c6_i32_147
  let c96_148 : Index := 96#32
  ![v350.toNat, 6, 96]
def k1_off57 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v353 : Index := Scalar.indexCast v91
  let c6_i32_149 : BitVec 32 := 6#32
  let v354 : Index := Scalar.indexCast c6_i32_149
  let c112_150 : Index := 112#32
  ![v353.toNat, 6, 112]

def k1_chk49 (v334 : IVec S16 32) : Prop :=
  (∀ a x, ((![v334] : Fin 1 → IVec S16 32) a x).toNat < S100000.size a)
theorem k1_idx49_inb : ∀ (v334 : IVec S16 32) (k1_hw49 : k1_chk49 v334), ∀ a x, ((![v334] : Fin 1 → IVec S16 32) a x).toNat < S100000.size a := fun v334 k1_hw49 => k1_hw49

def k1_chk50 (v337 : IVec S16 32) : Prop :=
  (∀ a x, ((![v337] : Fin 1 → IVec S16 32) a x).toNat < S100000.size a)
theorem k1_idx50_inb : ∀ (v337 : IVec S16 32) (k1_hw50 : k1_chk50 v337), ∀ a x, ((![v337] : Fin 1 → IVec S16 32) a x).toNat < S100000.size a := fun v337 k1_hw50 => k1_hw50

def k1_chk51 (v340 : IVec S16 32) : Prop :=
  (∀ a x, ((![v340] : Fin 1 → IVec S16 32) a x).toNat < S100000.size a)
theorem k1_idx51_inb : ∀ (v340 : IVec S16 32) (k1_hw51 : k1_chk51 v340), ∀ a x, ((![v340] : Fin 1 → IVec S16 32) a x).toNat < S100000.size a := fun v340 k1_hw51 => k1_hw51

def k1_chk52 (v343 : IVec S16 32) : Prop :=
  (∀ a x, ((![v343] : Fin 1 → IVec S16 32) a x).toNat < S100000.size a)
theorem k1_idx52_inb : ∀ (v343 : IVec S16 32) (k1_hw52 : k1_chk52 v343), ∀ a x, ((![v343] : Fin 1 → IVec S16 32) a x).toNat < S100000.size a := fun v343 k1_hw52 => k1_hw52

def k1_chk53 (v346 : IVec S16 32) : Prop :=
  (∀ a x, ((![v346] : Fin 1 → IVec S16 32) a x).toNat < S100000.size a)
theorem k1_idx53_inb : ∀ (v346 : IVec S16 32) (k1_hw53 : k1_chk53 v346), ∀ a x, ((![v346] : Fin 1 → IVec S16 32) a x).toNat < S100000.size a := fun v346 k1_hw53 => k1_hw53

def k1_chk54 (v349 : IVec S16 32) : Prop :=
  (∀ a x, ((![v349] : Fin 1 → IVec S16 32) a x).toNat < S100000.size a)
theorem k1_idx54_inb : ∀ (v349 : IVec S16 32) (k1_hw54 : k1_chk54 v349), ∀ a x, ((![v349] : Fin 1 → IVec S16 32) a x).toNat < S100000.size a := fun v349 k1_hw54 => k1_hw54

def k1_chk55 (v352 : IVec S16 32) : Prop :=
  (∀ a x, ((![v352] : Fin 1 → IVec S16 32) a x).toNat < S100000.size a)
theorem k1_idx55_inb : ∀ (v352 : IVec S16 32) (k1_hw55 : k1_chk55 v352), ∀ a x, ((![v352] : Fin 1 → IVec S16 32) a x).toNat < S100000.size a := fun v352 k1_hw55 => k1_hw55

def k1_chk56 (v355 : IVec S16 32) : Prop :=
  (∀ a x, ((![v355] : Fin 1 → IVec S16 32) a x).toNat < S100000.size a)
theorem k1_idx56_inb : ∀ (v355 : IVec S16 32) (k1_hw56 : k1_chk56 v355), ∀ a x, ((![v355] : Fin 1 → IVec S16 32) a x).toNat < S100000.size a := fun v355 k1_hw56 => k1_hw56
def k1_off58 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v372 : Index := Scalar.indexCast v91
  let c7_i32 : BitVec 32 := 7#32
  let v373 : Index := Scalar.indexCast c7_i32
  let c0_151 : Index := 0#32
  ![v372.toNat, 7, 0]
def k1_off59 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v375 : Index := Scalar.indexCast v91
  let c7_i32_152 : BitVec 32 := 7#32
  let v376 : Index := Scalar.indexCast c7_i32_152
  let c16_153 : Index := 16#32
  ![v375.toNat, 7, 16]
def k1_off60 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v378 : Index := Scalar.indexCast v91
  let c7_i32_154 : BitVec 32 := 7#32
  let v379 : Index := Scalar.indexCast c7_i32_154
  let c32_155 : Index := 32#32
  ![v378.toNat, 7, 32]
def k1_off61 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v381 : Index := Scalar.indexCast v91
  let c7_i32_156 : BitVec 32 := 7#32
  let v382 : Index := Scalar.indexCast c7_i32_156
  let c48_157 : Index := 48#32
  ![v381.toNat, 7, 48]
def k1_off62 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v384 : Index := Scalar.indexCast v91
  let c7_i32_158 : BitVec 32 := 7#32
  let v385 : Index := Scalar.indexCast c7_i32_158
  let c64_159 : Index := 64#32
  ![v384.toNat, 7, 64]
def k1_off63 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v387 : Index := Scalar.indexCast v91
  let c7_i32_160 : BitVec 32 := 7#32
  let v388 : Index := Scalar.indexCast c7_i32_160
  let c80_161 : Index := 80#32
  ![v387.toNat, 7, 80]
def k1_off64 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v390 : Index := Scalar.indexCast v91
  let c7_i32_162 : BitVec 32 := 7#32
  let v391 : Index := Scalar.indexCast c7_i32_162
  let c96_163 : Index := 96#32
  ![v390.toNat, 7, 96]
def k1_off65 (k1_t1 : Fin k1_t1_loop.trips) : Fin 3 → Nat :=
  let c0_i32_42 : BitVec 32 := 0#32
  let c0_i32_7 : BitVec 32 := 0#32
  let c1_i32 : BitVec 32 := 1#32
  let arg10 : BitVec 32 := Scf.iv c0_i32_7 c1_i32 k1_t1
  let c1_i32_41 : BitVec 32 := 1#32
  let v90 : BitVec 32 := Scalar.muli arg10 c1_i32_41
  let v91 : BitVec 32 := Scalar.addi c0_i32_42 v90
  let v393 : Index := Scalar.indexCast v91
  let c7_i32_164 : BitVec 32 := 7#32
  let v394 : Index := Scalar.indexCast c7_i32_164
  let c112_165 : Index := 112#32
  ![v393.toNat, 7, 112]

def k1_chk57 (v374 : IVec S16 32) : Prop :=
  (∀ a x, ((![v374] : Fin 1 → IVec S16 32) a x).toNat < S100000.size a)
theorem k1_idx57_inb : ∀ (v374 : IVec S16 32) (k1_hw57 : k1_chk57 v374), ∀ a x, ((![v374] : Fin 1 → IVec S16 32) a x).toNat < S100000.size a := fun v374 k1_hw57 => k1_hw57

def k1_chk58 (v377 : IVec S16 32) : Prop :=
  (∀ a x, ((![v377] : Fin 1 → IVec S16 32) a x).toNat < S100000.size a)
theorem k1_idx58_inb : ∀ (v377 : IVec S16 32) (k1_hw58 : k1_chk58 v377), ∀ a x, ((![v377] : Fin 1 → IVec S16 32) a x).toNat < S100000.size a := fun v377 k1_hw58 => k1_hw58

def k1_chk59 (v380 : IVec S16 32) : Prop :=
  (∀ a x, ((![v380] : Fin 1 → IVec S16 32) a x).toNat < S100000.size a)
theorem k1_idx59_inb : ∀ (v380 : IVec S16 32) (k1_hw59 : k1_chk59 v380), ∀ a x, ((![v380] : Fin 1 → IVec S16 32) a x).toNat < S100000.size a := fun v380 k1_hw59 => k1_hw59

def k1_chk60 (v383 : IVec S16 32) : Prop :=
  (∀ a x, ((![v383] : Fin 1 → IVec S16 32) a x).toNat < S100000.size a)
theorem k1_idx60_inb : ∀ (v383 : IVec S16 32) (k1_hw60 : k1_chk60 v383), ∀ a x, ((![v383] : Fin 1 → IVec S16 32) a x).toNat < S100000.size a := fun v383 k1_hw60 => k1_hw60

def k1_chk61 (v386 : IVec S16 32) : Prop :=
  (∀ a x, ((![v386] : Fin 1 → IVec S16 32) a x).toNat < S100000.size a)
theorem k1_idx61_inb : ∀ (v386 : IVec S16 32) (k1_hw61 : k1_chk61 v386), ∀ a x, ((![v386] : Fin 1 → IVec S16 32) a x).toNat < S100000.size a := fun v386 k1_hw61 => k1_hw61

def k1_chk62 (v389 : IVec S16 32) : Prop :=
  (∀ a x, ((![v389] : Fin 1 → IVec S16 32) a x).toNat < S100000.size a)
theorem k1_idx62_inb : ∀ (v389 : IVec S16 32) (k1_hw62 : k1_chk62 v389), ∀ a x, ((![v389] : Fin 1 → IVec S16 32) a x).toNat < S100000.size a := fun v389 k1_hw62 => k1_hw62

def k1_chk63 (v392 : IVec S16 32) : Prop :=
  (∀ a x, ((![v392] : Fin 1 → IVec S16 32) a x).toNat < S100000.size a)
theorem k1_idx63_inb : ∀ (v392 : IVec S16 32) (k1_hw63 : k1_chk63 v392), ∀ a x, ((![v392] : Fin 1 → IVec S16 32) a x).toNat < S100000.size a := fun v392 k1_hw63 => k1_hw63

def k1_chk64 (v395 : IVec S16 32) : Prop :=
  (∀ a x, ((![v395] : Fin 1 → IVec S16 32) a x).toNat < S100000.size a)
theorem k1_idx64_inb : ∀ (v395 : IVec S16 32) (k1_hw64 : k1_chk64 v395), ∀ a x, ((![v395] : Fin 1 → IVec S16 32) a x).toNat < S100000.size a := fun v395 k1_hw64 => k1_hw64
def k1_off66 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_l" => some ((1 / 200 : ℝ) : EReal)
  | _ => none
-- ==== ReferenceIdeal.lean ====
abbrev S4096x200 : Shape := ⟨2, ![4096, 200]⟩
abbrev S100000x64 : Shape := ⟨2, ![100000, 64]⟩
abbrev S1x64 : Shape := ⟨2, ![1, 64]⟩
abbrev S1 : Shape := ⟨1, ![1]⟩
abbrev S_ : Shape := ⟨0, ![]⟩
abbrev S4096x200x1 : Shape := ⟨3, ![4096, 200, 1]⟩
abbrev S1x1x1 : Shape := ⟨3, ![1, 1, 1]⟩
abbrev S4096x200x64 : Shape := ⟨3, ![4096, 200, 64]⟩
abbrev S4096x64 : Shape := ⟨2, ![4096, 64]⟩
abbrev S64x1 : Shape := ⟨2, ![64, 1]⟩
abbrev S4096x1 : Shape := ⟨2, ![4096, 1]⟩
abbrev S1x1 : Shape := ⟨2, ![1, 1]⟩
abbrev S4096 : Shape := ⟨1, ![4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x64, .f32⟩
  | .hbm, ⟨2, _⟩ => ⟨S1x64, .f32⟩
  | .hbm, ⟨3, _⟩ => ⟨S1, .f32⟩
  | .hbm, ⟨4, _⟩ => ⟨S_, .i32⟩
  | .hbm, ⟨5, _⟩ => ⟨S4096x200, .i32⟩
  | .hbm, ⟨6, _⟩ => ⟨S4096x200, .i1⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S4096x200, .i32⟩
  | .hbm, ⟨11, _⟩ => ⟨S4096x200x1, .i32⟩
  | .hbm, ⟨12, _⟩ => ⟨S1, .i32⟩
  | .hbm, ⟨13, _⟩ => ⟨S_, .i32⟩
  | .hbm, ⟨14, _⟩ => ⟨S4096x200x1, .i32⟩
  | .hbm, ⟨15, _⟩ => ⟨S4096x200x1, .i1⟩
  | .hbm, ⟨16, _⟩ => ⟨S1x1x1, .i32⟩
  | .hbm, ⟨17, _⟩ => ⟨S4096x200x1, .i32⟩
  | .hbm, ⟨18, _⟩ => ⟨S4096x200x1, .i1⟩
  | .hbm, ⟨19, _⟩ => ⟨S4096x200x1, .i1⟩
  | .hbm, ⟨20, _⟩ => ⟨S_, .i1⟩
  | .hbm, ⟨21, _⟩ => ⟨S4096x200, .i1⟩
  | .hbm, ⟨22, _⟩ => ⟨S4096x200x64, .f32⟩
  | .hbm, ⟨23, _⟩ => ⟨S4096x200x64, .i1⟩
  | .hbm, ⟨24, _⟩ => ⟨S_, .f32⟩
  | .hbm, ⟨25, _⟩ => ⟨S4096x200x64, .f32⟩
  | .hbm, ⟨26, _⟩ => ⟨S4096x200x64, .f32⟩
  | .hbm, ⟨27, _⟩ => ⟨S_, .f32⟩
  | .hbm, ⟨28, _⟩ => ⟨S4096x64, .f32⟩
  | .hbm, ⟨29, _⟩ => ⟨S_, .f32⟩
  | .hbm, ⟨30, _⟩ => ⟨S4096x64, .f32⟩
  | .hbm, ⟨31, _⟩ => ⟨S4096x64, .f32⟩
  | .hbm, ⟨32, _⟩ => ⟨S64x1, .f32⟩
  | .hbm, ⟨33, _⟩ => ⟨S4096x1, .f32⟩
  | .hbm, ⟨34, _⟩ => ⟨S1x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_v11 : Ref sig .tc := ⟨.hbm, 40, rfl⟩
abbrev main_v12 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩

abbrev nD : Nat := 1
abbrev τ : Topo := Topo.v7x

variable {F : FTy → Type} [FloatOps F]
-- ==== Proof.Values.lean ====
/-
  The pool kernel's values, as functions of what its tile holds: the gathered lanes of one trip's chunk, the running
  sums after some trips, and what is stored of them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Value

@[expose] public section

noncomputable section

namespace Cert.Proof.Pool

open Cert.KernelIdeal Cert.KernelIdeal.Gen
open Idealize.ShloMosaic

variable {F : FTy → Type} [FloatOps F] [Named F]

/-- Position `n` of the score table (every `n` used is in range). -/
def ixS (n : ℕ) : S100000.Idx := fun | 0 => Fin.ofNat 100000 n | ⟨_ + 1, h⟩ => absurd h (Nat.not_lt.2 (Nat.le_add_left _ _))

/-- Position `(t, l, j)` of a tile's index block. -/
def ixX (t l j : ℕ) : S25x8x128.Idx :=
  fun | 0 => Fin.ofNat 25 t | 1 => Fin.ofNat 8 l | 2 => Fin.ofNat 128 j | ⟨_ + 3, h⟩ => absurd h (Nat.not_lt.2 (Nat.le_add_left _ _))

/-- The scores named by row `(t, l)` of the index block, lanes `16 g` to `16 g + 15`. -/
def gat (s : S100000.Idx → Elt F .f32) (X : S25x8x128.Idx → Elt F .i32) (t l g : ℕ) : FVec F S16 .f32 :=
  fun x => s (ixS (BitVec.toNat (X (ixX t l (16 * g + (x 0).val)))))

/-- The running sum of lane group `g` after the first `n` rows of the index block (row `r` is `(r / 8, r % 8)`). -/
def acc (s : S100000.Idx → Elt F .f32) (X : S25x8x128.Idx → Elt F .i32) (n g : ℕ) : FVec F S16 .f32 :=
  (List.range n).foldl (fun a r => addf a (gat s X (r / 8) (r % 8) g)) (k1_pay62 (F := F))

theorem acc_zero (s : S100000.Idx → Elt F .f32) (X : S25x8x128.Idx → Elt F .i32) (g : ℕ) : acc s X 0 g = k1_pay62 (F := F) := rfl

theorem acc_succ (s : S100000.Idx → Elt F .f32) (X : S25x8x128.Idx → Elt F .i32) (n g : ℕ) :
    acc s X (n + 1) g = addf (acc s X n g) (gat s X (n / 8) (n % 8) g) := by
  unfold acc; rw [List.range_succ, List.foldl_append]; rfl

/-- One trip adds its eight rows, in order. -/
theorem acc_trip (s : S100000.Idx → Elt F .f32) (X : S25x8x128.Idx → Elt F .i32) (t g : ℕ) :
    acc s X (8 * (t + 1)) g
      = addf (addf (addf (addf (addf (addf (addf (addf (acc s X (8 * t) g) (gat s X t 0 g)) (gat s X t 1 g)) (gat s X t 2 g))
          (gat s X t 3 g)) (gat s X t 4 g)) (gat s X t 5 g)) (gat s X t 6 g)) (gat s X t 7 g) := by
  have h : ∀ l, l < 8 → (8 * t + l) / 8 = t ∧ (8 * t + l) % 8 = l := fun l hl => by omega
  rw [show 8 * (t + 1) = 8 * t + 7 + 1 from rfl]
  iterate 8 rw [acc_succ]
  rw [(h 7 (by decide)).1, (h 7 (by decide)).2, (h 6 (by decide)).1, (h 6 (by decide)).2, (h 5 (by decide)).1, (h 5 (by decide)).2,
    (h 4 (by decide)).1, (h 4 (by decide)).2, (h 3 (by decide)).1, (h 3 (by decide)).2, (h 2 (by decide)).1, (h 2 (by decide)).2,
    (h 1 (by decide)).1, (h 1 (by decide)).2, show (8 * t) / 8 = t by omega, show (8 * t) % 8 = 0 by omega]

/-- What the tile stores of a lane group's total: the sigmoid of the total times the kernel's constant. -/
def sigm (a : FVec F S16 .f32) : FVec F S16 .f32 := k1_pay71 a

/-- A tile's result: lane group `g`'s stored value at `16 g`. -/
def tileOut (s : S100000.Idx → Elt F .f32) (X : S25x8x128.Idx → Elt F .i32) (j : ℕ) : Elt F .f32 :=
  sigm (acc s X 200 (j / 16)) (fun | 0 => Fin.ofNat 16 (j % 16) | ⟨_ + 1, h⟩ => absurd h (Nat.not_lt.2 (Nat.le_add_left _ _)))

/-- The loaded vector of indices: row `(t, l)` of the index block, lanes `16 g` to `16 g + 15`. -/
theorem loaded_apply (X : S25x8x128.Idx → Elt F .i32) {off : Fin 3 → ℕ} (t l g : ℕ) (hoff : off = ![t, l, 16 * g])
    (inb : ∀ a, off a + S1x1x16.size a ≤ S25x8x128.size a) (x : S16.Idx) :
    shapeCast S16 (fun y : S1x1x16.Idx => X ((Rect.unit (s := S25x8x128) off S1x1x16.size inb).toLoadRect.idx y)) shapeCasts_S1x1x16_S16 x
      = X (ixX t l (16 * g + (x 0).val)) := by
  subst hoff
  have h0 : t + 1 ≤ 25 := inb 0
  have h1 : l + 1 ≤ 8 := inb 1
  have h2 : 16 * g + 16 ≤ 128 := inb 2
  have hx : (x 0).val < 16 := (x 0).isLt
  let k : S1x1x16.Idx := fun | 0 => ⟨0, Nat.one_pos⟩ | 1 => ⟨0, Nat.one_pos⟩ | 2 => x 0 | ⟨_ + 3, h⟩ => absurd h (Nat.not_lt.2 (Nat.le_add_left _ _))
  rw [shapeCast_apply _ _ x k
    (by rw [Shape.rowMajor_val_three, Shape.rowMajor_val_one]; show (0 * 1 + 0) * 16 + (x 0).val = (x 0).val; omega)]
  refine congrArg X (funext fun a => Fin.ext ?_)
  match a with
  | 0 => show t + 1 * 0 = t % 25; omega
  | 1 => show l + 1 * 0 = l % 8; omega
  | 2 => show 16 * g + 1 * (x 0).val = (16 * g + (x 0).val) % 128; omega

/-- Every lane a tile loads from its index block is in range when the whole block is. -/
theorem loaded_lt (X : S25x8x128.Idx → Elt F .i32) (hX : ∀ j, BitVec.toNat (X j) < 100000) (off : Fin 3 → ℕ)
    (inb : ∀ a, off a + S1x1x16.size a ≤ S25x8x128.size a) (a : Fin 1) (x : S16.Idx) :
    BitVec.toNat ((![shapeCast S16 (fun y : S1x1x16.Idx => X ((Rect.unit (s := S25x8x128) off S1x1x16.size inb).toLoadRect.idx y))
      shapeCasts_S1x1x16_S16] : Fin 1 → IVec S16 32) a x) < S100000.size a := by
  match a with
  | 0 => exact hX _

/-- A gather of the scores through a vector of positions, each taken below the table's length. -/
def gatT (s : S100000.Idx → Elt F .f32) (v : IVec S16 32) : FVec F S16 .f32 := fun x => s (ixS (v x).toNat)

/-- A gather through positions in range is `gatT`. -/
theorem loadIdx_gatT (s : S100000.Idx → Elt F .f32) (v : IVec S16 32) (h : ∀ a x, ((![v] : Fin 1 → IVec S16 32) a x).toNat < S100000.size a) :
    loadIdx (F := F) (e := .f32) s ![v] h = gatT s v := by
  funext x
  refine congrArg s (funext fun a => Fin.ext ?_)
  match a with
  | 0 => exact (Nat.mod_eq_of_lt (h 0 x)).symm

/-- A gather through the loaded indices is `gat`. -/
theorem gatT_gat (s : S100000.Idx → Elt F .f32) (X : S25x8x128.Idx → Elt F .i32) {off : Fin 3 → ℕ} (t l g : ℕ)
    (hoff : off = ![t, l, 16 * g]) (inb : ∀ a, off a + S1x1x16.size a ≤ S25x8x128.size a) :
    gatT (F := F) s (shapeCast S16 (fun y : S1x1x16.Idx => X ((Rect.unit (s := S25x8x128) off S1x1x16.size inb).toLoadRect.idx y)) shapeCasts_S1x1x16_S16)
      = gat s X t l g :=
  funext fun x => congrArg s (congrArg ixS (congrArg BitVec.toNat (loaded_apply (F := F) X t l g hoff inb x)))

end Cert.Proof.Pool

end
-- ==== Proof.Common.lean ====
/-
  What the modules of the kernel's run share: the program as the launch theorem sees it, the resource algebra, the
  buffers and the value each of them is claimed to hold.
-/
module

public import proofs.«01_k».proof.Defs
public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's, the local copies' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UR 𝕄).LandsIn (upEmb : UEmb _ 𝕄) := by unfold EP; infer_instance

/-! ## A tile's buffers -/

/-- The tile of the grid's launch coordinates. -/
abbrev cV (L : grid1.Coords) : Fin τ.nSC := (L 0).castLE hcore1
abbrev jV (L : grid1.Coords) : Fin τ.nSub := (L 1).castLE hsub1

abbrev sV : Memref sig .scVector .hbm S100000 .f32 := Memref.whole main_v1_scv
abbrev xV : Memref sig .scVector .hbm S25x8x4096 .i32 := Memref.whole main_v3_scv
abbrev oV : Memref sig .scVector .hbm S4096 .f32 := Memref.whole main_v4_scv
/-- A tile's copy of the scores, its block of indices, its results. -/
abbrev bS : Memref sig .scVector .vmem S100000 .f32 := Memref.whole cc1_scratch0
abbrev bX : Memref sig .scVector .vmem S25x8x128 .i32 := Memref.whole cc1_scratch1
abbrev bO : Memref sig .scVector .vmem S128 .f32 := Memref.whole cc1_scratch2

end Cert.Proof.Pool

end
-- ==== Proof.Trip.lean ====
/-
  One trip of the pool kernel's loop: eight rows of the tile's index block, each loaded, checked and gathered in eight
  lane groups, added to the eight running sums.
-/
module

public import proofs.«01_k».proof.Proof.Common

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The eight running sums. -/
abbrev Accs (F : FTy → Type) : Type :=
  FVec F S16 .f32 × FVec F S16 .f32 × FVec F S16 .f32 × FVec F S16 .f32 × FVec F S16 .f32 × FVec F S16 .f32 × FVec F S16 .f32 × FVec F S16 .f32

/-- The eight running sums after `t` trips. -/
def accs (s : S100000.Idx → Elt F .f32) (X : S25x8x128.Idx → Elt F .i32) (t : ℕ) : Accs F :=
  (acc s X (8 * t) 0, acc s X (8 * t) 1, acc s X (8 * t) 2, acc s X (8 * t) 3, acc s X (8 * t) 4, acc s X (8 * t) 5, acc s X (8 * t) 6, acc s X (8 * t) 7)

/-- Eight rows added to a running sum, in order. -/
def chain (a : FVec F S16 .f32) (g0 g1 g2 g3 g4 g5 g6 g7 : FVec F S16 .f32) : FVec F S16 .f32 :=
  addf (addf (addf (addf (addf (addf (addf (addf a g0) g1) g2) g3) g4) g5) g6) g7

/-- A running sum after one more trip. -/
theorem acc_chain (s : S100000.Idx → Elt F .f32) (X : S25x8x128.Idx → Elt F .i32) (t g : ℕ) (a : FVec F S16 .f32) (h : a = acc s X (8 * t) g) :
    acc s X (8 * (t + 1)) g
      = chain a (gat s X t 0 g) (gat s X t 1 g) (gat s X t 2 g) (gat s X t 3 g) (gat s X t 4 g) (gat s X t 5 g) (gat s X t 6 g) (gat s X t 7 g) := by
  rw [acc_trip, ← h]; rfl

theorem accs_inj {s : S100000.Idx → Elt F .f32} {X : S25x8x128.Idx → Elt F .i32} {t : ℕ} {a0 a1 a2 a3 a4 a5 a6 a7 : FVec F S16 .f32}
    (h : ((a0, a1, a2, a3, a4, a5, a6, a7) : Accs F) = accs s X t) :
    a0 = acc s X (8 * t) 0 ∧ a1 = acc s X (8 * t) 1 ∧ a2 = acc s X (8 * t) 2 ∧ a3 = acc s X (8 * t) 3
      ∧ a4 = acc s X (8 * t) 4 ∧ a5 = acc s X (8 * t) 5 ∧ a6 = acc s X (8 * t) 6 ∧ a7 = acc s X (8 * t) 7 := by
  unfold accs at h
  simpa only [Prod.mk.injEq] using h

theorem accs_of {s : S100000.Idx → Elt F .f32} {X : S25x8x128.Idx → Elt F .i32} {t : ℕ} {a0 a1 a2 a3 a4 a5 a6 a7 : FVec F S16 .f32} {r : Accs F}
    (h0 : acc s X (8 * t) 0 = a0) (h1 : acc s X (8 * t) 1 = a1) (h2 : acc s X (8 * t) 2 = a2) (h3 : acc s X (8 * t) 3 = a3)
    (h4 : acc s X (8 * t) 4 = a4) (h5 : acc s X (8 * t) 5 = a5) (h6 : acc s X (8 * t) 6 = a6) (h7 : acc s X (8 * t) 7 = a7)
    (h : r = (a0, a1, a2, a3, a4, a5, a6, a7)) : r = accs s X t := by
  subst h0 h1 h2 h3 h4 h5 h6 h7; exact h

/-- A load of a whole buffer reads it. -/
theorem readAt_bS (f : S100000.Idx → Elt F .f32) :
    View.readAt (Elt F) (View.whole cc1_scratch0) (LoadRect.whole S100000) f = f := by
  funext y
  refine congrArg f (funext fun a => Fin.ext ?_)
  show 0 + 1 * (y a).val = (y a).val
  omega

/-- A gather of the tile's scores through the row of its index block just loaded. -/
theorem gatT_row (f : S100000.Idx → Elt F .f32) (X : S25x8x128.Idx → Elt F .i32) {off : Fin 3 → ℕ} (t l g : ℕ)
    (hoff : off = ![t, l, 16 * g]) (inb : ∀ a, off a + S1x1x16.size a ≤ S25x8x128.size a) :
    gatT (F := F) (View.readAt (Elt F) (View.whole cc1_scratch0) (LoadRect.whole S100000) f)
        (shapeCast S16 (View.readAt (Elt F) (View.whole cc1_scratch1) (Rect.unit (s := S25x8x128) off S1x1x16.size inb).toLoadRect X) shapeCasts_S1x1x16_S16)
      = gat f X t l g := by
  rw [readAt_bS]; exact gatT_gat f X t l g hoff inb

set_option maxRecDepth 20000 in
set_option maxHeartbeats 400000 in
theorem trip (d : Dev nD) (L : grid1.Coords) (f : Buf (Elt F) ((V d (cV L) (jV L)).loc cc1_scratch0))
    (X : Buf (Elt F) ((V d (cV L) (jV L)).loc cc1_scratch1)) (hX : ∀ j : S25x8x128.Idx, BitVec.toNat (X j) < 100000)
    (t : Fin k1_t1_loop.trips) (a : Accs F) :
    (iprop((bX.view.loc (V d (cV L) (jV L)) ↦[Finset.univ]{fullShare} X) ∗ (bS.view.loc (V d (cV L) (jV L)) ↦[Finset.univ]{fullShare} f)) : sProp 𝕄)
    ⊢ wp frame (wpE defs₀ 𝒱₀ (V d (cV L) (jV L)) none) Set.univ
        (k1_t1_body L sV (Memref.isWhole_whole _) xV (Memref.isWhole_whole _) oV (Memref.isWhole_whole _) bS (Memref.isWhole_whole _)
          bX (Memref.isWhole_whole _) bO (Memref.isWhole_whole _) cc1_scratch3 cc1_scratch4 cc1_scoped0 t a)
        fun r => iprop(⌜a = accs f X t.val → r = accs f X (t.val + 1)⌝
          ∗ (bX.view.loc (V d (cV L) (jV L)) ↦[Finset.univ]{fullShare} X) ∗ (bS.view.loc (V d (cV L) (jV L)) ↦[Finset.univ]{fullShare} f)) := by
  obtain ⟨a0, a1, a2, a3, a4, a5, a6, a7⟩ := a
  generalize hp : k1_t1_body (F := F) L sV _ xV _ oV _ bS _ bX _ bO _ cc1_scratch3 cc1_scratch4 cc1_scoped0 t (a0, a1, a2, a3, a4, a5, a6, a7) = p
  simp only [k1_t1_body, k1_part1_eq_skeleton, k1_part2_eq_skeleton, k1_part3_eq_skeleton, k1_part4_eq_skeleton, k1_part5_eq_skeleton,
      k1_part6_eq_skeleton, k1_part7_eq_skeleton, k1_part8_eq_skeleton, k1_part9_eq_skeleton,
      k1_part1_skel, k1_part2_skel, k1_part3_skel, k1_part4_skel, k1_part5_skel, k1_part6_skel, k1_part7_skel, k1_part8_skel, k1_part9_skel,
      SparseCore.vectorLoadIdx, loadIdx_gatT] at hp
  subst hp
  iintro ⟨HX, HS⟩
  sl_exec (disch := exact loaded_lt X hX _ _)
  dsimp only
  rw [wp_ret]; imodintro
  isplitr [HX HS]
  · ipureintro
    intro ha
    obtain ⟨h0, h1, h2, h3, h4, h5, h6, h7⟩ := accs_inj ha
    refine accs_of (acc_chain f X _ 0 _ h0) (acc_chain f X _ 1 _ h1) (acc_chain f X _ 2 _ h2) (acc_chain f X _ 3 _ h3)
      (acc_chain f X _ 4 _ h4) (acc_chain f X _ 5 _ h5) (acc_chain f X _ 6 _ h6) (acc_chain f X _ 7 _ h7) ?_
    refine Prod.ext ?_ (Prod.ext ?_ (Prod.ext ?_ (Prod.ext ?_ (Prod.ext ?_ (Prod.ext ?_ (Prod.ext ?_ ?_))))))
    all_goals
      refine congrArg₂ addf (congrArg₂ addf (congrArg₂ addf (congrArg₂ addf (congrArg₂ addf (congrArg₂ addf (congrArg₂ addf
        (congrArg₂ addf rfl ?_) ?_) ?_) ?_) ?_) ?_) ?_) ?_
    all_goals
      refine gatT_row f X _ _ _ ?_ _
      generalize t = u
      revert u
      decide +kernel
  isplitl [HX]
  · iexact HX
  · iexact HS

end Cert.Proof.Pool

end
-- ==== Proof.Tile.lean ====
/-
  The pool kernel on one tile: the two copies in, the twenty-five trips, the eight stores and the copy out.
-/
module

public import proofs.«01_k».proof.Proof.Trip
public import Idealize.ShloMosaic.Lib.WritesUnit

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## A tile's scoped resources -/

section Tile

variable (d : Dev nD) (L : grid1.Coords)

/-- The tile's index slab as it slices it, and its block of the result. -/
abbrev xSlab (L : grid1.Coords) : Memref sig .scVector .hbm S25x8x128 .i32 :=
  (xV).slice (Rect.unit (s := S25x8x4096) (k1_off1 L) S25x8x128.size (k1_off1_inb L)) (fun _ => rfl)
abbrev oBlk (L : grid1.Coords) : Memref sig .scVector .hbm S128 .f32 :=
  (oV).slice (Rect.unit (s := S4096) (k1_off66 L) S128.size (k1_off66_inb L)) (fun _ => rfl)

abbrev cAcell (d : Dev nD) (c : Fin τ.nSC) (i : Fin τ.nSub) : GSem nD τ sig := (V d c i, .dma cc1_scratch3.sem)
abbrev cBcell (d : Dev nD) (c : Fin τ.nSC) (i : Fin τ.nSub) : GSem nD τ sig := (V d c i, .dma cc1_scratch4.sem)
abbrev cCcell (d : Dev nD) (c : Fin τ.nSC) (i : Fin τ.nSub) : GSem nD τ sig := (V d c i, .dma cc1_scoped0.sem)

omit [FloatOps F] [Named F] in
/-- The tile's three transfer semaphores are among its own: they are them, at zero, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped0.sem : SemLoc sig).isScoped .scVector = true; decide⟩⟩⟩)]

omit [FloatOps F] [Named F] in
/-- The tile's three scratch buffers are among its own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-- What the loop keeps: the running sums after `k` trips, over the tile's scores and index block. -/
def inv (s : S100000.Idx → Elt F .f32) (X : S25x8x128.Idx → Elt F .i32) (k : ℕ) (a : Accs F) : sProp 𝕄 :=
  iprop(⌜a = accs s X k⌝ ∗ (bX.view.loc (V d (cV L) (jV L)) ↦[Finset.univ]{fullShare} X)
    ∗ (bS.view.loc (V d (cV L) (jV L)) ↦[Finset.univ]{fullShare} s))

/-! ## What the eight stores leave -/

/-- One more store of sixteen lanes at `16 n`: if everything below `16 n` read `G`, everything below `16 (n + 1)` does. -/
theorem store_step (G : ℕ → Elt F .f32) (fo : S128.Idx → Elt F .f32) (P : List (View.Piece (Elt F) S128 .f32)) (n : ℕ) {off : Fin 1 → ℕ}
    (inb : ∀ a, off a + S16.size a ≤ S128.size a) (hoff : off = ![16 * n]) (w : FVec F S16 .f32)
    (hw : ∀ x : S16.Idx, w x = G (16 * n + (x 0).val))
    (h : ∀ y : S128.Idx, (y 0).val < 16 * n → bO.view.read (Elt F) (bO.view.writes (Elt F) fo P) y = G (y 0).val)
    (y : S128.Idx) (hy : (y 0).val < 16 * (n + 1)) :
    bO.view.read (Elt F) (bO.view.writes (Elt F) fo ((⟨Rect.unit off S16.size inb, w⟩ : View.Piece (Elt F) S128 .f32) :: P)) y = G (y 0).val := by
  by_cases hn : (y 0).val < 16 * n
  · rw [View.read_writes_cons_unit_of_not_mem bO.view fo inb w P y hoff 0 (.inl hn)]
    exact h y hn
  · let x : S16.Idx := fun | 0 => ⟨(y 0).val - 16 * n, by show _ < 16; omega⟩ | ⟨_ + 1, h⟩ => absurd h (Nat.not_lt.2 (Nat.le_add_left _ _))
    have hx : (y 0).val = 16 * n + (x 0).val := by show _ = 16 * n + ((y 0).val - 16 * n); omega
    rw [View.read_writes_cons_unit_of_mem bO.view fo inb w P y x hoff (fun a => by match a with | 0 => exact hx), hw, hx]

/-- Lane group `g`'s stored value is the tile's result there. -/
theorem tileOut_lane (s : S100000.Idx → Elt F .f32) (X : S25x8x128.Idx → Elt F .i32) (g : ℕ) (x : S16.Idx) :
    sigm (acc s X 200 g) x = tileOut s X (16 * g + (x 0).val) := by
  have hx : (x 0).val < 16 := (x 0).isLt
  unfold tileOut
  rw [show (16 * g + (x 0).val) / 16 = g by omega, show (16 * g + (x 0).val) % 16 = (x 0).val by omega]
  refine congrArg _ (funext fun a => Fin.ext ?_)
  match a with
  | 0 => exact (Nat.mod_eq_of_lt hx).symm

/-- The eight stores leave the tile's result. -/
theorem stored_read (s : S100000.Idx → Elt F .f32) (X : S25x8x128.Idx → Elt F .i32) (fo : S128.Idx → Elt F .f32)
    (w0 w1 w2 w3 w4 w5 w6 w7 : FVec F S16 .f32)
    (h0 : w0 = sigm (acc s X 200 0)) (h1 : w1 = sigm (acc s X 200 1)) (h2 : w2 = sigm (acc s X 200 2)) (h3 : w3 = sigm (acc s X 200 3))
    (h4 : w4 = sigm (acc s X 200 4)) (h5 : w5 = sigm (acc s X 200 5)) (h6 : w6 = sigm (acc s X 200 6)) (h7 : w7 = sigm (acc s X 200 7))
    (j : S128.Idx) :
    bO.view.read (Elt F) (bO.view.writes (Elt F) fo
      [⟨Rect.unit ![112] S16.size inb_S128_S16_112, w7⟩, ⟨Rect.unit ![96] S16.size inb_S128_S16_96, w6⟩,
       ⟨Rect.unit ![80] S16.size inb_S128_S16_80, w5⟩, ⟨Rect.unit ![64] S16.size inb_S128_S16_64, w4⟩,
       ⟨Rect.unit ![48] S16.size inb_S128_S16_48, w3⟩, ⟨Rect.unit ![32] S16.size inb_S128_S16_32, w2⟩,
       ⟨Rect.unit ![16] S16.size inb_S128_S16_16, w1⟩, ⟨Rect.unit ![0] S16.size inb_S128_S16_0, w0⟩]) j
      = tileOut s X (j 0).val := by
  subst h0 h1 h2 h3 h4 h5 h6 h7
  have hj : (j 0).val < 128 := (j 0).isLt
  refine store_step (tileOut s X) fo _ 7 _ rfl _ (tileOut_lane s X 7) ?_ j hj
  refine store_step (tileOut s X) fo _ 6 _ rfl _ (tileOut_lane s X 6) ?_
  refine store_step (tileOut s X) fo _ 5 _ rfl _ (tileOut_lane s X 5) ?_
  refine store_step (tileOut s X) fo _ 4 _ rfl _ (tileOut_lane s X 4) ?_
  refine store_step (tileOut s X) fo _ 3 _ rfl _ (tileOut_lane s X 3) ?_
  refine store_step (tileOut s X) fo _ 2 _ rfl _ (tileOut_lane s X 2) ?_
  refine store_step (tileOut s X) fo _ 1 _ rfl _ (tileOut_lane s X 1) ?_
  refine store_step (tileOut s X) fo _ 0 _ rfl _ (tileOut_lane s X 0) ?_
  exact fun y hy => absurd hy (Nat.not_lt_zero _)

/-- The block of the result after the copy out holds what was copied. -/
theorem oBlk_read (f0 : S4096.Idx → Elt F .f32) (w : S128.Idx → Elt F .f32) (j : S128.Idx) :
    (oBlk L).view.writes (Elt F) f0 [⟨Rect.whole S128, w⟩] ((oBlk L).view.emb j) = w j := by
  have h := congrFun (View.read_writes_whole (Val := Elt F) (oBlk L).view f0 w) j
  rwa [View.read_apply, cast_eq] at h

set_option maxRecDepth 20000 in
set_option maxHeartbeats 4000000 in
/-- The pool kernel on vector subcore `(L 0, L 1)` of device `d`, from the scores `s`, the indices `X3` (all in range) and
    its block of the result: the block ends at the tile's result. -/
theorem tile_body (hF : (K (F := F)).Facts) (s : Buf (Elt F) (sV.view.loc (V d (cV L) (jV L)))) (X3 : Buf (Elt F) (xV.view.loc (V d (cV L) (jV L))))
    (f0 : Buf (Elt F) ((oBlk L).view.loc (V d (cV L) (jV L)))) (q q' : PosShare TreeShare)
    (hX : ∀ j : S25x8x4096.Idx, BitVec.toNat (X3 j) < 100000)
    (O : CellTallies nD τ sig (HIx 1)) (W : Waits sig (HIx 1)) (hO : ∀ g, O g none = 0) :
    (iprop(levAts (K (F := F)).L (K (F := F)).lev
        ∗ ((sV.view.loc (V d (cV L) (jV L)) ↦[Finset.univ]{q} s) ∗ (xV.view.loc (V d (cV L) (jV L)) ↦[Finset.univ]{q'} X3)
          ∗ ((oBlk L).view.loc (V d (cV L) (jV L)) ↦[(oBlk L).view.set]{fullShare} f0))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1__pool_body L sV (Memref.isWhole_whole _) xV (Memref.isWhole_whole _) oV (Memref.isWhole_whole _)
            bS (Memref.isWhole_whole _) bX (Memref.isWhole_whole _) bO (Memref.isWhole_whole _) cc1_scratch3 cc1_scratch4 cc1_scoped0)
          fun _ => iprop((∃ f : Buf (Elt F) ((oBlk L).view.loc (V d (cV L) (jV L))),
              ⌜∀ j : S128.Idx, f ((oBlk L).view.emb j) = tileOut (s : S100000.Idx → Elt F .f32) ((xSlab L).view.read (Elt F) X3) (j 0).val⌝
              ∗ ((oBlk L).view.loc (V d (cV L) (jV L)) ↦[(oBlk L).view.set]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__pool_body_eq_skeleton]; unfold cc1__pool_body_skel
  simp only [k1_part10_eq_skeleton, k1_part11_eq_skeleton]; unfold k1_part10_skel k1_part11_skel
  rw [(K (F := F)).scopedBufs_V hF d (cV L) (jV L), SparseCore.Cfg.scopedSems0_V (Val := Elt F) d (cV L) (jV L), ownSems0_V, ownBufs_V]
  iintro ⟨#Hlv, ⟨Hs, Hx, Ho⟩, ⟨⟨%fs, Hbs⟩, ⟨%fx, Hbx⟩, ⟨%fo, Hbo⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hbs' := (show ((V d (cV L) (jV L)).loc cc1_scratch0 ↦{fullShare} fs : sProp 𝕄) ⊢ bS.view.loc (V d (cV L) (jV L)) ↦[Finset.univ]{fullShare} fs from .rfl) $$ Hbs
  ihave Hbx' := (show ((V d (cV L) (jV L)).loc cc1_scratch1 ↦{fullShare} fx : sProp 𝕄) ⊢ bX.view.loc (V d (cV L) (jV L)) ↦[Finset.univ]{fullShare} fx from .rfl) $$ Hbx
  ihave Hbo' := (show ((V d (cV L) (jV L)).loc cc1_scratch2 ↦{fullShare} fo : sProp 𝕄) ⊢ bO.view.loc (V d (cV L) (jV L)) ↦[Finset.univ]{fullShare} fo from .rfl) $$ Hbo
  ihave Hs' := (show (sV.view.loc (V d (cV L) (jV L)) ↦[Finset.univ]{q} s : sProp 𝕄) ⊢ sV.view.loc (V d (cV L) (jV L)) ↦[Finset.univ]{q} s from .rfl) $$ Hs
  ihave Hx' := (show (xV.view.loc (V d (cV L) (jV L)) ↦[Finset.univ]{q'} X3 : sProp 𝕄) ⊢ xV.view.loc (V d (cV L) (jV L)) ↦[Finset.univ]{q'} X3 from .rfl) $$ Hx
  ihave Ho' := (show ((oBlk L).view.loc (V d (cV L) (jV L)) ↦[(oBlk L).view.set]{fullShare} f0 : sProp 𝕄)
    ⊢ (oBlk L).view.loc (V d (cV L) (jV L)) ↦[(oBlk L).view.set]{fullShare} f0 from .rfl) $$ Ho
  sl_exec
  have eS : View.write (Elt F) (Memref.view bS) fs (tile_body.sl.dma0 d L s) Finset.univ = s := View.write_whole_univ _ _ _
  have eX : View.write (Elt F) (Memref.view bX) fx (tile_body.sl.dma0_1 d L X3) Finset.univ = (xSlab L).view.read (Elt F) X3 := View.write_whole_univ _ _ _
  rw [eS, eX, wp_bind]
  sl_for (inv d L s ((xSlab L).view.read (Elt F) X3)) $$ [Hbx' Hbs']
  case region =>
    intro k a
    unfold inv
    iintro ⟨%ha, HX, HS⟩
    iapply (wp_mono frame _ _ (fun r => ?_))
    rotate_left
    · iapply (trip d L s ((xSlab L).view.read (Elt F) X3) (fun j => hX _) k a)
      isplitl [HX] <;> iassumption
    iintro ⟨%hr, HX, HS⟩
    isplitr [HX HS]
    · ipureintro; exact hr ha
    isplitl [HX] <;> iassumption
  · unfold inv
    isplitr [Hbx' Hbs']
    · ipureintro; rfl
    isplitl [Hbx'] <;> iassumption
  iintro %r HI
  unfold inv
  icases HI with ⟨%hr, Hbx', Hbs'⟩
  have hr' : r = accs s ((xSlab L).view.read (Elt F) X3) 25 := hr
  clear hr; subst hr'
  unfold accs
  sl_exec
  sl_step
  isplitl [Ho']
  · iexists _
    isplitr
    swap
    · iexact Ho'
    ipureintro
    intro j
    refine (oBlk_read L f0 _ j).trans ?_
    exact stored_read s ((xSlab L).view.read (Elt F) X3) fo _ _ _ _ _ _ _ _ rfl rfl rfl rfl rfl rfl rfl rfl j
  isplitl [Hbs' Hbx' Hbo' Hbufs]
  · isplitl [Hbs']; · iexists _; iexact Hbs'
    isplitl [Hbx']; · iexists _; iexact Hbx'
    isplitl [Hbo']; · iexists _; iexact Hbo'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Pool

end
-- ==== Proof.Pay.lean ====
/-
  What the SparseCore call's handshakes carry, the tasks' obligation, and the split of the call's arrays among the
  thirty-two tiles.
-/
module

public import proofs.«01_k».proof.Proof.Tile

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-! ## The arrays -/

abbrev xLoc (d : Dev nD) : Loc nD τ sig := (SparseCore.T d).loc main_arg0
abbrev eLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev etLoc (d : Dev nD) : Loc nD τ sig := (SparseCore.T d).loc main_v0
abbrev scLoc (d : Dev nD) : Loc nD τ sig := (SparseCore.T d).loc main_v1
abbrev xtLoc (d : Dev nD) : Loc nD τ sig := (SparseCore.T d).loc main_v2
abbrev x3Loc (d : Dev nD) : Loc nD τ sig := (SparseCore.T d).loc main_v3
abbrev oLoc (d : Dev nD) : Loc nD τ sig := (SparseCore.T d).loc main_v4

/-- The indices transposed, and regrouped into twenty-five blocks of eight rows: what the call is handed. -/
def XT (d : Dev nD) : S200x4096.Idx → Elt F .i32 :=
  transpose S200x4096 [1, 0] (m (xLoc d) : S4096x200.Idx → Elt F .i32) transposes_S4096x200_S200x4096_1_0
def X3 (d : Dev nD) : S25x8x4096.Idx → Elt F .i32 := shapeCast S25x8x4096 (XT m d) shapeCasts_S200x4096_S25x8x4096

/-- What the proof asks of the launch memory: every index is a row of the table. -/
def PreOK : Prop := ∀ (d : Dev nD) (j : S4096x200.Idx), BitVec.toNat (m (xLoc d) j : Elt F .i32) < 100000

omit [FloatOps F] [Named F] in
theorem X3_lt (h : PreOK m) (d : Dev nD) (j : S25x8x4096.Idx) : BitVec.toNat (X3 m d j) < 100000 := h d _

/-! ## The tiles' coordinates and their blocks of the result -/

def coordsV (c : Fin 2) (i : Fin 16) : grid1.Coords :=
  fun | 0 => c | 1 => i | ⟨_ + 2, h⟩ => absurd h (Nat.not_lt.2 (Nat.le_add_left _ _))

theorem defs₀_vector (c : Fin τ.nSC) (i : Fin τ.nSub) :
    defs₀ (F := F) (.scVector c i) 1 ()
      = SparseCore.onTile hcore1 hsub1 (fun c i => cc1__pool_body (coordsV c i) sV (Memref.isWhole_whole _) xV (Memref.isWhole_whole _) oV (Memref.isWhole_whole _)
            bS (Memref.isWhole_whole _) bX (Memref.isWhole_whole _) bO (Memref.isWhole_whole _) cc1_scratch3 cc1_scratch4 cc1_scoped0) ⟨⟩ c i := rfl

/-- Tile `p`'s elements of the result: `128` of them from `256 * p.2 + 128 * p.1`. -/
abbrev oSet (p : Fin 2 × Fin 16) : Finset S4096.Idx := (oBlk (coordsV p.1 p.2)).view.set

theorem mem_oSet (p : Fin 2 × Fin 16) (y : S4096.Idx) :
    y ∈ oSet p ↔ 256 * p.2.val + 128 * p.1.val ≤ (y 0).val ∧ (y 0).val < 256 * p.2.val + 128 * p.1.val + 128 := by
  have e := k1_off66_eq (coordsV p.1 p.2)
  rw [show oSet p = (Rect.unit (s := S4096) (k1_off66 (coordsV p.1 p.2)) S128.size (k1_off66_inb _)).set from
    (View.set_slice _ _).trans Finset.map_refl]
  refine (LoadRect.mem_set _).trans ?_
  have e0 : k1_off66 (coordsV p.1 p.2) 0 = 256 * p.2.val + 128 * p.1.val := congrFun e 0
  constructor
  · intro h
    obtain ⟨j, hj, hy⟩ := h 0
    have hj' : j < 128 := hj
    have hy' : (y 0).val = k1_off66 (coordsV p.1 p.2) 0 + 1 * j := hy
    omega
  · rintro ⟨h1, h2⟩ a
    match a with
    | 0 => exact ⟨(y 0).val - (256 * p.2.val + 128 * p.1.val), by show _ < 128; omega, by
        show (y 0).val = k1_off66 (coordsV p.1 p.2) 0 + 1 * _; omega⟩

theorem oSet_disjoint : ∀ p ∈ (Finset.univ : Finset (Fin 2 × Fin 16)), ∀ p' ∈ (Finset.univ : Finset (Fin 2 × Fin 16)), p ≠ p' → Disjoint (oSet p) (oSet p') := by
  intro p _ p' _ h
  rw [Finset.disjoint_left]
  intro y hy hy'
  rw [mem_oSet] at hy hy'
  refine h (Prod.ext (Fin.ext ?_) (Fin.ext ?_)) <;> omega

theorem oSet_cover : (Finset.univ : Finset (Fin 2 × Fin 16)).biUnion oSet = Finset.univ := by
  refine Finset.eq_univ_iff_forall.mpr fun y => ?_
  have hy : (y 0).val < 4096 := (y 0).isLt
  refine Finset.mem_biUnion.mpr ⟨(⟨(y 0).val / 128 % 2, by omega⟩, ⟨(y 0).val / 256, by omega⟩), Finset.mem_univ _, ?_⟩
  rw [mem_oSet]
  show 256 * ((y 0).val / 256) + 128 * ((y 0).val / 128 % 2) ≤ _ ∧ _ < 256 * ((y 0).val / 256) + 128 * ((y 0).val / 128 % 2) + 128
  omega

/-- Tile `p`'s read share. -/
def tq (p : Fin 2 × Fin 16) : PosShare TreeShare := Transfers.shareTok fullShare 32 (finProdFinEquiv p)

/-! ## What the handshakes carry -/

section

variable (Sc : Dev nD → (S100000.Idx → Elt F .f32) → Prop)

/-- What tile `p`'s block of the result is claimed to hold, over scores `s`. -/
def TileOK (d : Dev nD) (p : Fin 2 × Fin 16) (s : S100000.Idx → Elt F .f32) (f : Buf (Elt F) (oLoc d)) : Prop :=
  ∀ j : S128.Idx, f ((oBlk (coordsV p.1 p.2)).view.emb j) = tileOut s ((xSlab (coordsV p.1 p.2)).view.read (Elt F) (X3 m d)) (j 0).val

def goP (d : Dev nD) (p : Fin 2 × Fin 16) : sProp 𝕄 :=
  iprop(∃ s : Buf (Elt F) (scLoc d), ⌜Sc d s⌝ ∗ (scLoc d ↦{tq p} s) ∗ (x3Loc d ↦{tq p} (X3 m d : Buf (Elt F) (x3Loc d)))
    ∗ (oLoc d ↦[oSet p]{fullShare} m (oLoc d)))
def tdP (d : Dev nD) (p : Fin 2 × Fin 16) : sProp 𝕄 :=
  iprop(∃ f : Buf (Elt F) (oLoc d), ⌜∃ s, Sc d s ∧ TileOK m d p s f⌝ ∗ (oLoc d ↦[oSet p]{fullShare} f))

instance goP_storable (d : Dev nD) (p : Fin 2 × Fin 16) : BI.Storable (upEmb : UEmb _ 𝕄) (goP m Sc d p) := by unfold goP; infer_instance
instance tdP_storable (d : Dev nD) (p : Fin 2 × Fin 16) : BI.Storable (upEmb : UEmb _ 𝕄) (tdP m Sc d p) := by unfold tdP; infer_instance

/-- The call takes every tile's read shares of the scores and the indices and its block of the result; it brings back the
    blocks. -/
def P : (K (F := F)).Pay (nD := nD) (Val := Elt F) (Name := ℕ) (U := UU) where
  st := fun q d c => match q with | 0 => bigSep Finset.univ fun i : Fin 16 => goP m Sc d ((c : Fin 2), i)
  dn := fun q d c => match q with | 0 => bigSep Finset.univ fun i : Fin 16 => tdP m Sc d ((c : Fin 2), i)
  go := fun q d c i => match q with | 0 => goP m Sc d ((c : Fin 2), (i : Fin 16))
  td := fun q d c i => match q with | 0 => tdP m Sc d ((c : Fin 2), (i : Fin 16))
  x := fun _ _ => iprop(emp)

instance P_storable : (P (F := F) m Sc).IsStorable where
  st q d c := match q with
    | 0 => (inferInstance : BI.Storable (upEmb : UEmb _ 𝕄) (bigSep Finset.univ fun i : Fin 16 => goP m Sc d ((c : Fin 2), i)))
  dn q d c := match q with
    | 0 => (inferInstance : BI.Storable (upEmb : UEmb _ 𝕄) (bigSep Finset.univ fun i : Fin 16 => tdP m Sc d ((c : Fin 2), i)))
  go q d c i := match q with | 0 => goP_storable m Sc d ((c : Fin 2), (i : Fin 16))
  td q d c i := match q with | 0 => tdP_storable m Sc d ((c : Fin 2), (i : Fin 16))

theorem vecSplit : (K (F := F)).VecSplit' (P m Sc) 0 := by
  intro d c
  show (bigSep Finset.univ fun i : Fin 16 => goP m Sc d ((c : Fin 2), i)) ⊢ |={Set.univ}=> iprop(
      (bigSep Finset.univ fun i : Fin 16 => goP m Sc d ((c : Fin 2), i))
      ∗ ((bigSep Finset.univ fun i : Fin 16 => tdP m Sc d ((c : Fin 2), i)) -∗ bigSep Finset.univ fun i : Fin 16 => tdP m Sc d ((c : Fin 2), i)))
  iintro H; imodintro
  isplitl [H]; · iexact H
  iintro H; iexact H

/-! ## The task's obligation -/

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The pool kernel on one tile, in the handshake's terms. -/
theorem tile_task (hF : (K (F := F)).Facts) (hpre : PreOK m) (d : Dev nD) (p : Fin 2 × Fin 16) (O : CellTallies nD τ sig (HIx 1)) (W : Waits sig (HIx 1))
    (hO : ∀ g, O g none = 0) :
    (iprop(levAts (K (F := F)).L (K (F := F)).lev ∗ emp ∗ goP m Sc d p
        ∗ scopedBufs (V d (cV (coordsV p.1 p.2)) (jV (coordsV p.1 p.2))) ∗ scopedSems0 (V d (cV (coordsV p.1 p.2)) (jV (coordsV p.1 p.2)))
        ∗ owes (V d (cV (coordsV p.1 p.2)) (jV (coordsV p.1 p.2))) O W) : sProp 𝕄)
      ⊢ wp frame (wpE (defs₀ (F := F)) 𝒱₀ (V d (cV (coordsV p.1 p.2)) (jV (coordsV p.1 p.2))) none) Set.univ
          (cc1__pool_body (coordsV p.1 p.2) sV (Memref.isWhole_whole _) xV (Memref.isWhole_whole _) oV (Memref.isWhole_whole _)
            bS (Memref.isWhole_whole _) bX (Memref.isWhole_whole _) bO (Memref.isWhole_whole _) cc1_scratch3 cc1_scratch4 cc1_scoped0)
          fun _ => iprop(tdP m Sc d p
            ∗ scopedBufs (V d (cV (coordsV p.1 p.2)) (jV (coordsV p.1 p.2))) ∗ scopedSems0 (V d (cV (coordsV p.1 p.2)) (jV (coordsV p.1 p.2)))
            ∗ ∃ W', ⌜∀ p ∈ W', p ∈ W ∨ p.2 = none⌝ ∗ owes (V d (cV (coordsV p.1 p.2)) (jV (coordsV p.1 p.2))) O W') := by
  unfold goP tdP
  iintro ⟨Hl, -, ⟨%s, %hs, Hs, Hx, Ho⟩, Hb, Hsm, HO⟩
  iapply (wp_mono frame _ _ (fun r => ?_))
  rotate_left
  · iapply (tile_body d (coordsV p.1 p.2) hF s (X3 m d) (m (oLoc d)) (tq p) (tq p) (X3_lt m hpre d) O W hO)
    isplitl [Hl]; · iexact Hl
    isplitl [Hs Hx Ho]
    · isplitl [Hs]; · iexact Hs
      isplitl [Hx]; · iexact Hx
      iexact Ho
    isplitl [Hb]; · iexact Hb
    isplitl [Hsm]; · iexact Hsm
    iexact HO
  iintro ⟨⟨%f, %hf, Hf⟩, H⟩
  isplitr [H]
  · iexists f
    isplitr
    · ipureintro; exact ⟨s, hs, hf⟩
    iexact Hf
  iexact H

set_option maxRecDepth 16384 in
theorem tileObl (hF : (K (F := F)).Facts) (hpre : PreOK m) : (K (F := F)).TileObl (D (F := F)) 𝒱 (P m Sc) v₀ 0 := by
  intro d c i O W hO _ _
  simp only [show (P m Sc).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (tile_task m Sc hF hpre d (⟨_, hci.1⟩, ⟨_, hci.2⟩) O W hO).trans (wp_mono frame _ _ fun _ => obl_post)

/-! ## The arrays among the tiles -/

omit [FloatOps F] [Named F] in
theorem oPts_blocks (d : Dev nD) (f : Buf (Elt F) (oLoc d)) :
    (oLoc d ↦{fullShare} f : sProp 𝕄) = bigSep Finset.univ fun p : Fin 2 × Fin 16 => oLoc d ↦[oSet p]{fullShare} f := by
  rw [← pointsTo_biUnion Finset.univ (ℓ := oLoc d) oSet oSet_disjoint, oSet_cover]; try rfl

omit [FloatOps F] [Named F] in
/-- A buffer held whole gives every tile a read share of it. -/
theorem shares (ℓ : Loc nD τ sig) (f : Buf (Elt F) ℓ) :
    (ℓ ↦{fullShare} f : sProp 𝕄) ⊢ bigSep Finset.univ fun p : Fin 2 × Fin 16 => ℓ ↦{tq p} f := by
  refine (Transfers.pointsTo_toks_split fullShare 32).trans ?_
  rw [bigSep_univ_equiv (finProdFinEquiv (m := 2) (n := 16))]
  iintro ⟨-, H⟩
  iexact H

/-- From the scores, the indices and the result's array whole: what the call's cores are started with. -/
theorem split (d : Dev nD) (s : Buf (Elt F) (scLoc d)) (hs : Sc d s) :
    (iprop((scLoc d ↦{fullShare} s) ∗ (x3Loc d ↦{fullShare} (X3 m d : Buf (Elt F) (x3Loc d))) ∗ (oLoc d ↦{fullShare} m (oLoc d))) : sProp 𝕄)
      ⊢ bigSep Finset.univ fun c : Fin ((K (F := F)).nCore 0) => (P m Sc).st 0 d c := by
  show _ ⊢ bigSep Finset.univ fun c : Fin 2 => bigSep Finset.univ fun i : Fin 16 => goP m Sc d (c, i)
  rw [← bigSep_univ_prod (fun p : Fin 2 × Fin 16 => goP m Sc d p), oPts_blocks]
  refine (BI.sep_mono (shares _ _) (sep_mono_left (shares _ _))).trans ?_
  show (iprop((bigSep Finset.univ fun p : Fin 2 × Fin 16 => scLoc d ↦{tq p} s)
    ∗ (bigSep Finset.univ fun p : Fin 2 × Fin 16 => x3Loc d ↦{tq p} (X3 m d : Buf (Elt F) (x3Loc d)))
    ∗ (bigSep Finset.univ fun p : Fin 2 × Fin 16 => oLoc d ↦[oSet p]{fullShare} m (oLoc d))) : sProp 𝕄) ⊢ _
  rw [← bigSep_sep', ← bigSep_sep']
  refine BI.bigSep_mono fun p _ => ?_
  show (iprop((scLoc d ↦{tq p} s) ∗ (x3Loc d ↦{tq p} (X3 m d : Buf (Elt F) (x3Loc d))) ∗ (oLoc d ↦[oSet p]{fullShare} m (oLoc d))) : sProp 𝕄) ⊢ goP m Sc d p
  unfold goP
  iintro ⟨Hs, Hx, Ho⟩
  iexists s
  isplitr; · ipureintro; exact hs
  isplitl [Hs]; · iexact Hs
  isplitl [Hx]; · iexact Hx
  iexact Ho

/-- What the whole result is claimed to hold: every tile's block, over scores as claimed. -/
def Out (d : Dev nD) (f : Buf (Elt F) (oLoc d)) : Prop := ∀ p : Fin 2 × Fin 16, ∃ s, Sc d s ∧ TileOK m d p s f

set_option maxRecDepth 4096 in
/-- From what the call's cores bring back: the result's array whole. -/
theorem join (d : Dev nD) :
    (bigSep Finset.univ fun c : Fin ((K (F := F)).nCore 0) => (P m Sc).dn 0 d c)
      ⊢ (iprop(∃ f, ⌜Out m Sc d f⌝ ∗ (oLoc d ↦{fullShare} f)) : sProp 𝕄) := by
  show (bigSep Finset.univ fun c : Fin 2 => bigSep Finset.univ fun i : Fin 16 => tdP m Sc d (c, i)) ⊢ _
  rw [← bigSep_univ_prod (fun p : Fin 2 × Fin 16 => tdP m Sc d p)]
  unfold tdP
  refine (bigSep_exists_pi Finset.univ (fun p (f : Buf (Elt F) (oLoc d)) => iprop(⌜∃ s, Sc d s ∧ TileOK m d p s f⌝ ∗ (oLoc d ↦[oSet p]{fullShare} f)))).trans ?_
  iintro ⟨%fs, H⟩
  ihave H1 := (bigSep_pure_sep Finset.univ (fun p => ∃ s, Sc d s ∧ TileOK m d p s (fs p)) (fun p => (oLoc d ↦[oSet p]{fullShare} fs p : sProp 𝕄))) $$ H
  icases H1 with ⟨%hf, H⟩
  ihave H' := (pointsTo_biUnion_join (ℓ := oLoc d) (q := fullShare) (Val := Elt F) Finset.univ oSet fs (fs 0) oSet_disjoint) $$ H
  icases H' with ⟨%g, %hg, Hg⟩
  rw [oSet_cover]
  iexists g
  isplitr
  · ipureintro
    intro p
    obtain ⟨s, hs, hp⟩ := hf p (Finset.mem_univ p)
    exact ⟨s, hs, fun j => (hg p (Finset.mem_univ p) _ (View.emb_mem_set _ j)).trans (hp j)⟩
  iexact Hg

end

end Cert.Proof.Pool

end
-- ==== Proof.Region.lean ====
/-
  The TensorCore's half: the pipeline that computes every row's score, a block of 25600 rows at each of four points.
-/
module

public import proofs.«01_k».proof.Proof.Pay
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Regions
public import Idealize.ShloMosaic.Lib.Pipeline.FrameBody
public import Idealize.ShloMosaic.Lib.VecWindow

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type} [FloatOps F] [Named F]

local notation "𝕄" => MT nD τ sig (HIx 1) (Elt F) ℕ UU ℕ

/-! ## The body at one point -/

/-- The only place of the bias. -/
def i₀ : S1.Idx := fun a => ⟨0, by fin_cases a; exact Nat.zero_lt_one⟩

/-- The scores the body stores, from the table's block, the weights and the bias it is handed. -/
def blockScores (X : S64x25600.Idx → Elt F .f32) (Wt : S1x64.Idx → Elt F .f32) (b : S1.Idx → Elt F .f32) : S25600.Idx → Elt F .f32 :=
  k0_pay1 X Wt (b i₀)

omit [FloatOps F] [Named F] in
/-- A store of the view's own sizes leaves what was stored. -/
theorem read_store_full {κ : Kind} {sp : Space} {s : Shape} {e : EltTy} (v : View sig κ sp s e) (f : v.ty.Contents (Elt F))
    {off : Fin s.rank → ℕ} (inb : ∀ a, off a + s.size a ≤ s.size a) (w : s.Idx → Elt F e) :
    v.read (Elt F) (v.writes (Elt F) f [⟨Rect.unit off s.size inb, w⟩]) = w := by
  funext j
  exact View.read_writes_cons_unit_of_mem v f inb w [] j j rfl (fun a => by have := inb a; omega)

/-- The body's run over any staging buffers: the three inputs are left as they were, the output's holds the block's
    scores. -/
theorem score_run (d : Dev nD) (i : grid0.Coords) (M1 : Memref sig .tc .vmem S64x25600 .f32) (h1 : M1.IsWhole)
    (M2 : Memref sig .tc .vmem S1x64 .f32) (h2 : M2.IsWhole) (M3 : Memref sig .tc .smem S1 .f32) (h3 : M3.IsWhole)
    (M4 : Memref sig .tc .vmem S25600 .f32) (h4 : M4.IsWhole)
    (X : S64x25600.Idx → Elt F .f32) (Wt : S1x64.Idx → Elt F .f32) (b : S1.Idx → Elt F .f32) (Y : S25600.Idx → Elt F .f32)
    (Q : PUnit → sProp 𝕄) :
    (iprop(owns (SparseCore.T d) M1 fullShare X ∗ owns (SparseCore.T d) M2 fullShare Wt ∗ owns (SparseCore.T d) M3 fullShare b
        ∗ owns (SparseCore.T d) M4 fullShare Y
        ∗ (iprop(owns (SparseCore.T d) M1 fullShare X ∗ owns (SparseCore.T d) M2 fullShare Wt ∗ owns (SparseCore.T d) M3 fullShare b
            ∗ owns (SparseCore.T d) M4 fullShare (blockScores X Wt b)) -∗ Q ⟨⟩)) : sProp 𝕄)
      ⊢ wp frame (wpE (defs₀ (F := F)) 𝒱₀ (SparseCore.T d) none) Set.univ (cc0__score_body i M1 h1 M2 h2 M3 h3 M4 h4) Q := by
  simp only [cc0__score_body_eq_skeleton]; unfold cc0__score_body_skel
  unfold owns
  iintro ⟨⟨%f1, %e1, H1⟩, ⟨%f2, %e2, H2⟩, ⟨%f3, %e3, H3⟩, ⟨%f4, %e4, H4⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  iexists _; isplitr; swap; · iexact H4
  ipureintro
  subst e1 e2 e3
  refine (read_store_full M4.view f4 inb_S25600_S25600_0 _).trans ?_
  have r1 : View.readAt (Elt F) M1.view (Rect.unit ![0, 0] S64x25600.size inb_S64x25600_S64x25600_0_0).toLoadRect f1 = View.read (Elt F) M1.view f1 := View.readAt_full M1.view f1 _
  have r2 : View.readAt (Elt F) M2.view (Rect.unit ![0, 0] S1x64.size inb_S1x64_S1x64_0_0).toLoadRect f2 = View.read (Elt F) M2.view f2 := View.readAt_full M2.view f2 _
  have r3 : score_run.sl.r d M3 f3 = View.read (Elt F) M3.view f3 i₀ := by
    unfold score_run.sl.r
    exact congrArg (View.read (Elt F) M3.view f3) (funext fun a => by fin_cases a; rfl)
  exact congr (congr (congrArg k0_pay1 r1) r2) r3

/-! ## The windows' blocks -/

variable (m : (ℓ : Loc nD τ sig) → Buf (Elt F) ℓ)

/-- The table transposed: a column per row of the table. -/
def ET (d : Dev nD) : S64x100000.Idx → Elt F .f32 :=
  transpose S64x100000 [1, 0] (m (eLoc d) : S100000x64.Idx → Elt F .f32) transposes_S100000x64_S64x100000_1_0

/-- A staged block of the transposed table at point `t`: the table's columns from `25600 t` on where it has them, and
    nothing is said of the places past its end. -/
def BlockOf (d : Dev nD) (t : ℕ) (Y : S64x25600.Idx → Elt F .f32) : Prop :=
  ∀ (k : S64x25600.Idx) (y : S64x100000.Idx), (y 0).val = (k 0).val → (y 1).val = 25600 * t + (k 1).val → Y k = ET m d y

/-- What the body leaves in the scores' staging buffer at point `t`. -/
def LeftBy (d : Dev nD) (t : ℕ) (X : S25600.Idx → Elt F .f32) : Prop :=
  ∃ Y, BlockOf m d t Y ∧ X = blockScores Y (m (wLoc d)) (m (bLoc d))

/-- What the scores' array holds after the points before `n`: at every place of an earlier block, what the body left
    there. -/
def ScoresTo (d : Dev nD) (n : ℕ) (s : S100000.Idx → Elt F .f32) : Prop :=
  ∀ t : ℕ, t < n → ∃ X, LeftBy m d t X ∧ ∀ (j : S25600.Idx) (y : S100000.Idx), (y 0).val = 25600 * t + (j 0).val → s y = X j

/-- What the scores' array holds after the region. -/
abbrev Scores (d : Dev nD) (s : S100000.Idx → Elt F .f32) : Prop := ScoresTo m d 4 s

theorem lt_extent {ix k n j : ℕ} {c : Pipeline.Clip} (h : Pipeline.Clip.Ok ix k n c) (hj : j < k) : j < c.extent k ↔ ix * k + j < n := by
  cases c with
  | none => have h' : (ix + 1) * k ≤ n := h; rw [Nat.succ_mul] at h'; exact ⟨fun _ => by omega, fun _ => hj⟩
  | some e => have h' : 0 < e ∧ e < k ∧ ix * k + e = n := h; show j < e ↔ _; omega

theorem table_at (t : Fin grid0.N) : cc0_transform_0 (grid0.coords t) 0 = 0 ∧ cc0_transform_0 (grid0.coords t) 1 = t.val := by
  revert t; decide

theorem scores_at (t : Fin grid0.N) : cc0_transform_3 (grid0.coords t) 0 = t.val := by
  revert t; decide

/-- The proof data of the region: the four arrays as it finds them; the inputs' staging buffers are left as found, the
    scores' at the block's scores; the core owes what it owes before the SparseCore call throughout. -/
def rdat (d : Dev nD) : RDat τ (Elt F) (HIx 1) ℕ UU ℕ cfg0 d where
  A w := match w with
    | ⟨0, _⟩ => ET m d
    | ⟨1, _⟩ => m (wLoc d)
    | ⟨2, _⟩ => m (bLoc d)
    | ⟨3, _⟩ => m (scLoc d)
  after w t Y X := match w with
    | ⟨0, _⟩ => X = Y
    | ⟨1, _⟩ => X = Y
    | ⟨2, _⟩ => X = Y
    | ⟨3, _⟩ => LeftBy m d t.val X
  Φ _ := BI.emp
  q _ := fullShare
  owed _ := (K (F := F)).Otc d 0
  recorded _ := {p | (K (F := F)).lev (SparseCore.T d, p.1) p.2 ≤ 8 * SparseCore.Cfg.Blocks.fst (Q := 1) (N := 1) 0}

/-- The transposed table's staging buffer holds its block at every point. -/
theorem finds_table (d : Dev nD) (t : Fin cfg0.N) (Y : S64x25600.Idx → Elt F .f32) (h : (rdat m d).Finds 0 t Y) : BlockOf m d t.val Y := by
  obtain ⟨g, rfl⟩ := ((rdat m d).finds_of_fetch (fetch0_0 t) Y).mp h
  intro k y h0 h1
  have hm : win0_0.moved (grid0.coords t) k = true := (win0_0.moved_iff (grid0.coords t) k).mpr (fun a => by
      have hy : (y 1).val < 100000 := (y 1).isLt
      have hk : (k 0).val < 64 := (k 0).isLt
      fin_cases a
      · refine (lt_extent (Pipeline.Clip.ok_of (hstart0_0 (grid0.coords t) 0)) (k 0).isLt).mpr ?_
        show cc0_transform_0 (grid0.coords t) 0 * 64 + (k 0).val < 64
        rw [(table_at t).1]; omega
      · refine (lt_extent (Pipeline.Clip.ok_of (hstart0_0 (grid0.coords t) 1)) (k 1).isLt).mpr ?_
        show cc0_transform_0 (grid0.coords t) 1 * 25600 + (k 1).val < 100000
        rw [(table_at t).2]; omega)
  unfold RDat.fetched Pipeline.Window.fill
  rw [dif_pos hm]
  refine congrArg (ET m d) (funext fun a => Fin.ext ?_)
  fin_cases a
  · show cc0_transform_0 (grid0.coords t) 0 * 64 + 1 * (k 0).val = (y 0).val
    rw [(table_at t).1]; omega
  · show cc0_transform_0 (grid0.coords t) 1 * 25600 + 1 * (k 1).val = (y 1).val
    rw [(table_at t).2]; omega

/-- The weights' buffer holds the weights. -/
theorem finds_weights (d : Dev nD) (t : Fin cfg0.N) (Y : S1x64.Idx → Elt F .f32) (h : (rdat m d).Finds 1 t Y) : Y = m (wLoc d) := by
  obtain ⟨g, rfl⟩ := (rdat m d).finds_in_eq_fetched 1 rfl (fun _ _ _ => rfl) (fun _ _ _ h => h) t Y h
  funext k
  refine congrArg (m (wLoc d)) (funext fun a => Fin.ext ?_)
  fin_cases a
  · show 0 * 1 + 1 * (k 0).val = (k 0).val; omega
  · show 0 * 64 + 1 * (k 1).val = (k 1).val; omega

theorem finds_bias (d : Dev nD) (t : Fin cfg0.N) (Y : S1.Idx → Elt F .f32) (h : (rdat m d).Finds 2 t Y) : Y = m (bLoc d) := by
  obtain ⟨g, rfl⟩ := (rdat m d).finds_in_eq_fetched 2 rfl (fun _ _ _ => rfl) (fun _ _ _ h => h) t Y h
  funext k
  refine congrArg (m (bLoc d)) (funext fun a => Fin.ext ?_)
  fin_cases a
  show 0 * 1 + 1 * (k 0).val = (k 0).val; omega

/-- The body at every point, from what its staging buffers hold there. -/
theorem score_obligation (d : Dev nD) : (rdat m d).BodyObligation (defs₀ (F := F)) 𝒱₀ (none : HIx 1) Set.univ := fun t Y hY => by
  have hT := finds_table m d t (Y 0) (hY 0)
  have hW := finds_weights m d t (Y 1) (hY 1)
  have hB := finds_bias m d t (Y 2) (hY 2)
  rw [bigSep_W0, bigSep_W0]
  rw [show (rdat m d).owesAt (none : HIx 1) t.succ = (rdat m d).owesAt (none : HIx 1) t.castSucc from rfl,
    show (rdat m d).Φ t.succ = (rdat m d).Φ t.castSucc from rfl]
  iintro ⟨HΦ, Ho, H0, H1, H2, H3⟩
  iapply (score_run d (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (Y 0) (Y 1) (Y 2) (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists _; isplitr; swap; (· iexact H0); ipureintro; exact rfl
  isplitl [H1]
  · iexists _; isplitr; swap; (· iexact H1); ipureintro; exact rfl
  isplitl [H2]
  · iexists _; isplitr; swap; (· iexact H2); ipureintro; exact rfl
  iexists _; isplitr; swap; (· iexact H3); ipureintro; exact ⟨Y 0, hT, by rw [hW, hB]⟩

/-! ## What the region leaves -/

/-- The scores' array once the blocks before `n` are written back. -/
theorem scoresTo_of_arrAt (d : Dev nD) (n : ℕ) (hn : n ≤ 4) (s : S100000.Idx → Elt F .f32) (h : (rdat m d).ArrAt 3 n s) : ScoresTo m d n s := by
  induction n generalizing s with
  | zero => intro t ht; exact absurd ht (Nat.not_lt_zero t)
  | succ n ih =>
    have hN : n < cfg0.N := by show n < grid0.N; rw [N_0]; omega
    have h' : (rdat m d).ArrStep 3 ⟨n, hN⟩ ((rdat m d).ArrAt 3 n) s := by
      unfold RDat.ArrAt at h; rw [dif_pos hN, if_pos (flush0_3 ⟨n, hN⟩)] at h; exact h
    obtain ⟨G, X, hG, ⟨Y, -, hX⟩, rfl⟩ := h'
    have hix := scores_at ⟨n, hN⟩
    intro t ht
    rcases Nat.lt_succ_iff_lt_or_eq.mp ht with ht | rfl
    · obtain ⟨X', hX', hs⟩ := ih (by omega) G hG t ht
      refine ⟨X', hX', fun j y hy => ?_⟩
      refine Eq.trans ?_ (hs j y hy)
      refine View.write_of_not_mem (v := (win0_3.blk ⟨n, hN⟩).view) G (win0_3.cut (grid0.coords ⟨n, hN⟩) X) Finset.univ (i := y) fun hmem => ?_
      obtain ⟨x, -, hx⟩ := Finset.mem_map.mp hmem
      have hv : cc0_transform_3 (grid0.coords ⟨n, hN⟩) 0 * 25600 + 1 * (x 0).val = (y 0).val := congrArg (fun z : S100000.Idx => (z 0).val) hx
      have hj : (j 0).val < 25600 := (j 0).isLt
      rw [hix] at hv
      dsimp only at hv
      omega
    · refine ⟨X, hX, fun j y hy => ?_⟩
      have hm : (j 0).val < win0_3.xsize (grid0.coords ⟨t, hN⟩) 0 := by
        refine (lt_extent (Pipeline.Clip.ok_of (hstart0_3 (grid0.coords ⟨t, hN⟩) 0)) (j 0).isLt).mpr ?_
        have hy' : (y 0).val < 100000 := (y 0).isLt
        show cc0_transform_3 (grid0.coords ⟨t, hN⟩) 0 * 25600 + (j 0).val < 100000
        rw [hix]; dsimp only; omega
      let x : (win0_3.xblock (grid0.coords ⟨t, hN⟩)).Idx := fun a => ⟨(j a).val, by fin_cases a; exact hm⟩
      have hx : (win0_3.blk ⟨t, hN⟩).view.emb x = y := funext fun a => Fin.ext (by
        fin_cases a
        show cc0_transform_3 (grid0.coords ⟨t, hN⟩) 0 * 25600 + 1 * (j 0).val = (y 0).val
        rw [hix]; dsimp only; omega)
      have hr := congrFun (View.read_write_univ (v := (win0_3.blk ⟨t, hN⟩).view) G (win0_3.cut (grid0.coords ⟨t, hN⟩) X)) x
      rw [← hx]
      exact hr

/-! ## The region -/

abbrev adm : (p : Fin 1) → (pcfgs (F := F) p).Adm := fun p => (cfgs p).toPCfg_adm

abbrev rdats : (p : Fin 1) → (d : Dev nD) → RDat τ (Elt F) (HIx 1) ℕ UU ℕ (Pipeline.pin (pcfgs (F := F)) adm p) d := fun _ d => rdat m d

/-- The region's arrays, each whole at the full share. -/
theorem arr_eq (d : Dev nD) (w : Fin 4) (f : Buf (Elt F) ((cfg0.win w).arr.view.loc (SparseCore.T d))) :
    ((cfg0.win w).arr.view.loc (SparseCore.T d) ↦[(cfg0.win w).arr.view.set]{(rdat m d).share w} f : sProp 𝕄)
      = ((cfg0.win w).arr.view.loc (SparseCore.T d) ↦{fullShare} f) := by
  rw [(rdat m d).share_full (fun _ => rfl) w, Memref.IsWhole.set_eq_univ (m := (cfg0.win w).arr) (arr_whole0 w)]

/-- The region's arrays and the core's tallies before it. -/
def regPre (d : Dev nD) : sProp 𝕄 :=
  iprop(((etLoc d ↦{fullShare} ET m d) ∗ (wLoc d ↦{fullShare} m (wLoc d)) ∗ (bLoc d ↦{fullShare} m (bLoc d)) ∗ (scLoc d ↦{fullShare} m (scLoc d)))
    ∗ ∃ W, ⌜(K (F := F)).WBelow (SparseCore.T d) W (8 * SparseCore.Cfg.Blocks.fst (Q := 1) (N := 1) 0)⌝ ∗ owes (SparseCore.T d) ((K (F := F)).Otc d 0) W)

/-- The same after it, the scores' array holding the scores. -/
def regPost (d : Dev nD) : sProp 𝕄 :=
  iprop(((etLoc d ↦{fullShare} ET m d) ∗ (wLoc d ↦{fullShare} m (wLoc d)) ∗ (bLoc d ↦{fullShare} m (bLoc d))
      ∗ ∃ s, ⌜Scores m d s⌝ ∗ (scLoc d ↦{fullShare} s))
    ∗ ∃ W, ⌜(K (F := F)).WBelow (SparseCore.T d) W (8 * SparseCore.Cfg.Blocks.fst (Q := 1) (N := 1) 0)⌝ ∗ owes (SparseCore.T d) ((K (F := F)).Otc d 0) W)

/-- Before the call the core owes nothing at the index its own copies wait at. -/
theorem owes_none (d : Dev nD) (g : GSem nD τ sig) : (K (F := F)).Otc (N := 1) d 0 g none = 0 := by
  by_contra h
  have := SparseCore.Cfg.lev_of_Otc_pos (K := K (F := F)) (Nat.pos_of_ne_zero h)
  have h0 : (K (F := F)).lev (N := 1) g none = 0 := rfl
  omega

set_option backward.isDefEq.respectTransparency.types false in
def reg : Pipeline.RDat.RegionSeg (pcfgs (F := F)) adm (rdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := score_obligation m d
  hwaits d := Pipeline.RDat.cellsWaits_intro _ _ _ _ _ fun _ _ _ => (K (F := F)).mayWait_none _ (owes_none d)
  pre := regPre m
  post := regPost m
  X _ := BI.emp
  Y _ := BI.emp
  Z _ := BI.emp
  hentry d := by
    rw [Pipeline.ownSems0_none]
    unfold regPre Pipeline.RDat.arrays
    rw [bigSep_W0, show (Pipeline.RDat.share (rdats m 0 d)) = (rdat m d).share from rfl, arr_eq, arr_eq, arr_eq, arr_eq]
    iintro ⟨⟨⟨H0, H1, H2, H3⟩, ⟨%W, %hW, HO⟩⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (hW p hp)
      iexact HO
    isplitr <;> iempintro
  hin d := by
    rw [show (rdats m 0 d).Φ 0 = (BI.emp : sProp 𝕄) from rfl]
    iintro -; iempintro
  hout d := by
    rw [Pipeline.ownSems0_none, show (rdats m 0 d).Φ (Fin.last _) = (BI.emp : sProp 𝕄) from rfl]
    iintro -
    isplitr; · iempintro
    isplitr; · iempintro
    iapply (Entails.of_eq (scopedRest0_eq d).symm); iempintro
  hexit d := by
    unfold regPost Pipeline.RDat.arraysAt Pipeline.RDat.owesAt Pipeline.owesWithin
    rw [bigSep_W0]
    iintro ⟨⟨⟨%F0, %h0, H0⟩, ⟨%F1, %h1, H1⟩, ⟨%F2, %h2, H2⟩, ⟨%F3, %h3, H3⟩⟩, ⟨%W, %hW, HO⟩, -, -⟩
    imodintro
    ihave H0' := (Entails.of_eq (arr_eq m d 0 F0)) $$ H0
    ihave H1' := (Entails.of_eq (arr_eq m d 1 F1)) $$ H1
    ihave H2' := (Entails.of_eq (arr_eq m d 2 F2)) $$ H2
    ihave H3' := (Entails.of_eq (arr_eq m d 3 F3)) $$ H3
    rw [show (rdats m 0 d) = rdat m d from rfl, (rdat m d).ArrAt_in 0 rfl] at h0
    rw [show (rdats m 0 d) = rdat m d from rfl, (rdat m d).ArrAt_in 1 rfl] at h1
    rw [show (rdats m 0 d) = rdat m d from rfl, (rdat m d).ArrAt_in 2 rfl] at h2
    subst h0 h1 h2
    isplitl [H0' H1' H2' H3']
    · isplitl [H0']; · iexact H0'
      isplitl [H1']; · iexact H1'
      isplitl [H2']; · iexact H2'
      iexists F3; isplitr; swap; (· iexact H3'); ipureintro
      exact scoresTo_of_arrAt m d 4 le_rfl F3 (N_0 ▸ h3)
    iexists W; isplitr; swap; (· iexact HO); ipureintro
    intro p hp
    rcases hW hp with h | ⟨w, k, rfl⟩
    · exact h
    · exact Nat.zero_le _

end Cert.Proof.Pool

end
-- ==== Proof.Main.lean ====
/-
  The kernel's whole run: the table's transpose, the scores' region, the indices' transpose and reshape, the pool's call.
-/
module

public import proofs.«01_k».proof.Proof.Region
public import Idealize.ShloMosaic.Lib.SparseCore.Quiescent

@[expose] public section

noncomputable section

namespace Cert.Proof.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)
open Idealize.ShloMosaic.StableHlo (held wp_hlo_within)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The ghost state the launch starts from -/

/-- The one pipeline's configuration. -/
abbrev pipes := Pipeline.pin (pcfgs (F := F)) adm

omit [Named F] in
theorem pipes_inj : Function.Injective (Pipeline.cellOf (nD := nD) (τ := τ) (pipes (F := F))) := cellOf_inj

/-- The handshakes' rounds and the pipeline's, each at its start. -/
def u₀ : UU := (initOf (K (F := F)).hsCells (K (F := F)).hsToks,
  (initOf (Pipeline.cells (pipes (F := F)) pipes_inj) (Pipeline.launchToks (pipes (F := F)) pipes_inj), 1))

/-- What the launch leaves a device for its pipeline. -/
def G (d : Dev nD) : sProp 𝕄 := iprop(Pipeline.cellsGhost (pipes (F := F)) EP 0 d ∗ Pipeline.toksInit (pipes (F := F)) EP 0 d)

theorem hu₀ (Sc : Dev nD → (S100000.Idx → Elt F .f32) → Prop) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m Sc).x q thr) := by
  have hx : (bigSep Finset.univ fun thr : Thread nD τ => bigSep Finset.univ fun q : Fin 1 => (P m Sc).x q thr) = (iprop(emp) : sProp 𝕄) :=
    (bigSep_congr fun _ _ => bigSep_univ_of_subsingleton (0 : Fin 1)).trans (bigSep_emp_const _)
  rw [hx]
  unfold u₀
  iintro Hu
  ihave H := (ownU_pair (initOf (K (F := F)).hsCells (K (F := F)).hsToks)
    (initOf (Pipeline.cells (pipes (F := F)) pipes_inj) (Pipeline.launchToks (pipes (F := F)) pipes_inj), (1 : Counters))) $$ Hu
  icases H with ⟨HH, HR⟩
  ihave HR' := (own_pair_emb (embR (nD := nD) (sig := sig) (Ix := HIx 1) (Val := Elt F) (Name := ℕ) (A := UH) (B := UR × Counters) (Lvl := ℕ))
    (initOf (Pipeline.cells (pipes (F := F)) pipes_inj) (Pipeline.launchToks (pipes (F := F)) pipes_inj)) (1 : Counters)) $$ HR
  icases HR' with ⟨HP, -⟩
  ihave HP' := (show (BI.own (((Emb.inl : Emb UR (UR × Counters)).trans (embR (nD := nD) (sig := sig) (Ix := HIx 1) (Val := Elt F) (Name := ℕ) (A := UH) (B := UR × Counters) (Lvl := ℕ)))
      (initOf (Pipeline.cells (pipes (F := F)) pipes_inj) (Pipeline.launchToks (pipes (F := F)) pipes_inj))) : sProp 𝕄)
    ⊢ BI.own (EP (initOf (Pipeline.cells (pipes (F := F)) pipes_inj) (Pipeline.launchToks (pipes (F := F)) pipes_inj))) from .rfl) $$ HP
  imod (Pipeline.fund_ghost (pipes (F := F)) (EP (F := F)) pipes_inj) $$ HP' with ⟨Hg, Ht⟩
  imodintro
  isplitl [HH]; · iexact HH
  isplitl [Hg Ht]; swap; · iempintro
  unfold G
  rw [bigSep_sep']
  have one (Φ : Fin 1 → Dev nD → sProp 𝕄) :
      (bigSep Finset.univ fun c : Dev nD => bigSep Finset.univ fun p => Φ p c) = bigSep Finset.univ fun c => Φ 0 c :=
    bigSep_congr fun _ _ => bigSep_univ_of_subsingleton (0 : Fin 1)
  isplitl [Hg]
  · ihave Hg' := (Entails.of_eq (one fun p c => Pipeline.cellsGhost (pipes (F := F)) EP p c)) $$ Hg
    iexact Hg'
  ihave Ht' := (Entails.of_eq (one fun p c => Pipeline.toksInit (pipes (F := F)) EP p c)) $$ Ht
  iexact Ht'

/-! ## The arrays at launch and the host's operations -/

/-- The TensorCore's arrays one by one. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (eLoc d ↦{fullShare} W main_arg1)
      ∗ (wLoc d ↦{fullShare} W main_arg2) ∗ (bLoc d ↦{fullShare} W main_arg3) ∗ (etLoc d ↦{fullShare} W main_v0)
      ∗ (scLoc d ↦{fullShare} W main_v1) ∗ (xtLoc d ↦{fullShare} W main_v2) ∗ (x3Loc d ↦{fullShare} W main_v3)
      ∗ oLoc d ↦{fullShare} W main_v4) := by
  unfold unscopedBufs
  rw [show (Finset.univ.filter fun b : Ref sig .tc => ¬ b.isScoped)
      = {main_arg0, main_arg1, main_arg2, main_arg3, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

abbrev dref (r : Ref sig .tc) : DevRef τ sig := Proc.devRef .tc r

/-- An operation that reads one array and writes another, from the two arrays. -/
theorem wp_op2 (d : Dev nD) (x y : Ref sig .tc) (op : HloOp τ sig (Elt F)) (hxy : dref x ≠ dref y)
    (hb : op.bufs ⊆ {dref x, dref y}) (hw : dref x ∉ op.writes) (hf : op.fresh = ∅)
    (V : Valuation τ sig (Elt F)) {hp : ((SparseCore.T d : Thread nD τ)).2.kind.runsHlo = true}
    (k : ((b : op.writes) → b.1.ty.Contents (Elt F)) → Prog (TpuEff nD τ sig (Elt F) (SparseCore.Sig (ΛP (F := F)) 1) .tc) PUnit)
    (Q : PUnit → sProp 𝕄) :
    (iprop(boundary (SparseCore.T d) ∗ (((SparseCore.T d).loc x) ↦{fullShare} V (dref x)) ∗ (((SparseCore.T d).loc y) ↦{fullShare} V (dref y))) : sProp 𝕄)
      ⊢ iprop(((boundary (SparseCore.T d) ∗ (((SparseCore.T d).loc x) ↦{fullShare} V (dref x)) ∗ (((SparseCore.T d).loc y) ↦{fullShare} op.result V (dref y)))
            -∗ wp frame (wpE ((K (F := F)).defs (D (F := F))) 𝒱 (SparseCore.T d) none) Set.univ (k (op.fn fun b => V b.1)) Q)
          -∗ wp frame (wpE ((K (F := F)).defs (D (F := F))) 𝒱 (SparseCore.T d) none) Set.univ (hlo hp op k) Q) := by
  have hheld (W : Valuation τ sig (Elt F)) : (held (SparseCore.T d) {dref x, dref y} W : sProp 𝕄)
      = iprop((((SparseCore.T d).loc x) ↦{fullShare} W (dref x)) ∗ (((SparseCore.T d).loc y) ↦{fullShare} W (dref y))) := by
    unfold held
    rw [SparseCore.bigSep_insert' (by simpa using hxy), bigSep_singleton]
  have h := wp_hlo_within (defs := (K (F := F)).defs (D (F := F))) 𝒱 (SparseCore.T d) none Set.univ (op := op) (hp := hp) (k := k) (Q := Q) hb (V := V) hf
  rw [hheld, hheld, op.result_of_not_mem V hw] at h
  exact h

/-- The valuations the host's operations run over: the launch's, and the one holding the transposed indices. -/
def V₀ (d : Dev nD) : Valuation τ sig (Elt F) := fun b => m (d, b)

abbrev opE : HloOp τ sig (Elt F) := StableHlo.unary main_arg1 main_v0 ((transpose S64x100000 [1, 0] · transposes_S100000x64_S64x100000_1_0) : (⟨S100000x64, .f32⟩ : BufTy).Contents (Elt F) → (⟨S64x100000, .f32⟩ : BufTy).Contents (Elt F))
abbrev opX : HloOp τ sig (Elt F) := StableHlo.unary main_arg0 main_v2 ((transpose S200x4096 [1, 0] · transposes_S4096x200_S200x4096_1_0) : (⟨S4096x200, .i32⟩ : BufTy).Contents (Elt F) → (⟨S200x4096, .i32⟩ : BufTy).Contents (Elt F))
abbrev opR : HloOp τ sig (Elt F) := StableHlo.reshape main_v2 main_v3 (rfl : (.i32 : EltTy) = .i32) shapeCasts_S200x4096_S25x8x4096

theorem opE_result (d : Dev nD) : (opE (F := F)).result (V₀ m d) (dref main_v0) = ET m d := StableHlo.unary_result _ _ _ _ _ _
theorem opX_result (d : Dev nD) : (opX (F := F)).result (V₀ m d) (dref main_v2) = XT m d := StableHlo.unary_result _ _ _ _ _ _
theorem opX_other (d : Dev nD) : (opX (F := F)).result (V₀ m d) (dref main_v3) = m (x3Loc d) :=
  StableHlo.unary_result_ne _ _ _ _ _ _ (by decide)
theorem opR_result (d : Dev nD) : (opR (F := F)).result ((opX (F := F)).result (V₀ m d)) (dref main_v3) = X3 m d :=
  (StableHlo.reshape_result _ _ _ _ _ _ _).trans (by rw [opX_result]; rfl)

/-! ## @main -/

/-- What @main leaves the claims: the arguments at their launch contents, the result's array as the call's tiles left it. -/
abbrev FIN (d : Dev nD) : sProp 𝕄 :=
  iprop((xLoc d ↦{fullShare} m (xLoc d)) ∗ (eLoc d ↦{fullShare} m (eLoc d)) ∗ (wLoc d ↦{fullShare} m (wLoc d)) ∗ (bLoc d ↦{fullShare} m (bLoc d))
    ∗ ∃ f, ⌜Out m (Scores m) d f⌝ ∗ (oLoc d ↦{fullShare} f))

/-- The core's state before the call is its tallies and the rest, which the scores' region does not touch. -/
theorem tcSt_split (d : Dev nD) : ∃ R : sProp 𝕄, ((K (F := F)).tcSt EH d 0 : sProp 𝕄)
    = iprop((∃ W, ⌜(K (F := F)).WBelow (SparseCore.T d) W (8 * SparseCore.Cfg.Blocks.fst (Q := 1) (N := 1) 0)⌝ ∗ owes (SparseCore.T d) ((K (F := F)).Otc d 0) W) ∗ R) :=
  ⟨_, rfl⟩

/-- @main on device `d`'s TensorCore. -/
theorem hmain (κ : GSem nD τ sig → ℕ) (d : Dev nD) :
    iprop((K (F := F)).ctx EH (P m (Scores m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_split (F := F) d
  unfold SparseCore.Cfg.tcRes SparseCore.Cfg.tcEnd G
  rw [unscopedBufs_eq]
  simp only [main, wp_bind, wp_pure]
  iintro ⟨#Hctx, Hst, ⟨Hb, ⟨Hx, He, Hw, Hbi, Het, Hsc, Hxt, Hx3, Ho⟩, Hts, -⟩, ⟨Hgh, Htk⟩⟩
  -- the table's transpose
  iapply (wp_op2 d main_arg1 main_v0 opE (by decide) (show ({dref main_arg1, dref main_v0} : Finset (DevRef τ sig)) ⊆ _ by decide)
    (show dref main_arg1 ∉ ({dref main_v0} : Finset (DevRef τ sig)) by decide) rfl (V₀ m d)) $$ [Hb He Het]
  · isplitl [Hb]; · iexact Hb
    isplitl [He]; · iexact He
    iexact Het
  iintro ⟨Hb, He, Het⟩
  rw [wp_ret]; imodintro
  -- the scores
  ihave Hst' := (Entails.of_eq hR) $$ Hst
  icases Hst' with ⟨HO, HR⟩
  ihave Hlev := (SparseCore.Cfg.ctx_levAts κ) $$ Hctx
  iapply ((K (F := F)).wp_liftProg (D (F := F)) 𝒱 (SparseCore.T d) Set.univ none (Prog.lift (.customCall (Pipeline.entry 0) ())) _)
  iapply (Pipeline.RDat.RegionSeg.wp (pcfgs (F := F)) adm (rdats m) (none : HIx 1) pipes_inj EP defs₀ 𝒱₀ (K (F := F)).L (K (F := F)).lev (reg m) d none (fun _ h => nomatch h) .ret _)
  isplitr [Hb Het Hw Hbi Hsc HO Hgh Htk]; swap
  · isplitl [Hb]; · iexact Hb
    isplitl [Het Hw Hbi Hsc HO]
    · ihave Het' := (Entails.of_eq (congrArg (fun f => ((etLoc d ↦{fullShare} f) : sProp 𝕄)) (opE_result m d))) $$ Het
      iapply (Entails.of_eq (show regPre m d = (reg m).pre d from rfl))
      unfold regPre
      isplitl [Het' Hw Hbi Hsc]
      · isplitl [Het']; · iexact Het'
        isplitl [Hw]; · iexact Hw
        isplitl [Hbi]; · iexact Hbi
        iexact Hsc
      iexact HO
    isplitr; · iexact Hlev
    isplitl [Hgh]; · iexact Hgh
    iexact Htk
  iintro ⟨Hb, Hpost⟩
  rw [wp_ret]; imodintro
  ihave Hpost' := (Entails.of_eq (show (reg m).post d = regPost m d from rfl)) $$ Hpost
  unfold regPost
  icases Hpost' with ⟨⟨Het, Hw, Hbi, ⟨%s, %hs, Hsc⟩⟩, HO⟩
  -- the indices' transpose and reshape
  iapply (wp_op2 d main_arg0 main_v2 opX (by decide) (show ({dref main_arg0, dref main_v2} : Finset (DevRef τ sig)) ⊆ _ by decide)
    (show dref main_arg0 ∉ ({dref main_v2} : Finset (DevRef τ sig)) by decide) rfl (V₀ m d)) $$ [Hb Hx Hxt]
  · isplitl [Hb]; · iexact Hb
    isplitl [Hx]; · iexact Hx
    iexact Hxt
  iintro ⟨Hb, Hx, Hxt⟩
  rw [wp_ret]; imodintro
  iapply (wp_op2 d main_v2 main_v3 opR (by decide) (show ({dref main_v2, dref main_v3} : Finset (DevRef τ sig)) ⊆ _ by decide)
    (show dref main_v2 ∉ ({dref main_v3} : Finset (DevRef τ sig)) by decide) rfl ((opX (F := F)).result (V₀ m d))) $$ [Hb Hxt Hx3]
  · isplitl [Hb]; · iexact Hb
    isplitl [Hxt]; · iexact Hxt
    iapply (Entails.of_eq (congrArg (fun f => ((x3Loc d ↦{fullShare} f) : sProp 𝕄)) (opX_other m d).symm)); iexact Hx3
  iintro ⟨Hb, Hxt, Hx3⟩
  rw [wp_ret]; imodintro
  ihave Hx3' := (Entails.of_eq (congrArg (fun f => ((x3Loc d ↦{fullShare} f) : sProp 𝕄)) (opR_result m d))) $$ Hx3
  -- the pool's call
  iapply ((K (F := F)).wp_run (D (F := F)) 𝒱 (EH := EH) (P := P m (Scores m)) κ d 0) $$ [HO HR Hsc Hx3' Ho Hb Hts Hx He Hw Hbi]
  isplitr; · iexact Hctx
  isplitl [HO HR]
  · iapply (Entails.of_eq hR.symm)
    isplitl [HO]; · iexact HO
    iexact HR
  isplitl [Hsc Hx3' Ho]
  · iapply (split m (Scores m) d s hs)
    isplitl [Hsc]; · iexact Hsc
    isplitl [Hx3']; · iexact Hx3'
    iexact Ho
  iintro ⟨Hst, Hdn⟩
  ihave Ho := (join m (Scores m) d) $$ Hdn
  imodintro
  isplitl [Hst]; · iexact Hst
  isplitr [Hb Hts]
  · isplitl [Hx]; · iexact Hx
    isplitl [He]; · iexact He
    isplitl [Hw]; · iexact Hw
    isplitl [Hbi]; · iexact Hbi
    iexact Ho
  isplitl [Hb] <;> iassumption

/-! ## The final state -/

/-- What a final state holds on device `d`. -/
def fq (d : Dev nD) (s' : Phys nD τ sig (Elt F)) : Prop :=
  s'.mem.mem (xLoc d) = m (xLoc d) ∧ s'.mem.mem (eLoc d) = m (eLoc d) ∧ s'.mem.mem (wLoc d) = m (wLoc d) ∧ s'.mem.mem (bLoc d) = m (bLoc d)
    ∧ Out m (Scores m) d (s'.mem.mem (oLoc d))

/-- An array owned whole beside the state's interpretation is the state's, and both are kept. -/
theorem agree (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s') := by
  iintro H
  ihave H' := (persistent_entails_right (SI_pointsTo_agree (st := s') (ℓ := ℓ) (I := Finset.univ) (q := fullShare) (f := f))) $$ H
  icases H' with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Hx, He, Hw, Hb, ⟨%f, %hf, Ho⟩⟩, HSI⟩
  ihave H := (agree s' _ _) $$ [HSI Hx]
  · isplitl [HSI] <;> iassumption
  icases H with ⟨%h1, HSI⟩
  ihave H := (agree s' _ _) $$ [HSI He]
  · isplitl [HSI] <;> iassumption
  icases H with ⟨%h2, HSI⟩
  ihave H := (agree s' _ _) $$ [HSI Hw]
  · isplitl [HSI] <;> iassumption
  icases H with ⟨%h3, HSI⟩
  ihave H := (agree s' _ _) $$ [HSI Hb]
  · isplitl [HSI] <;> iassumption
  icases H with ⟨%h4, HSI⟩
  ihave H := (agree s' _ _) $$ [HSI Ho]
  · isplitl [HSI] <;> iassumption
  icases H with ⟨%h5, -⟩
  ipureintro; exact ⟨h1, h2, h3, h4, h5 ▸ hf⟩

/-! ## The run -/

/-- What every run ends with: the arguments as they were, the result's array as the call's tiles left it, every counter
    at zero. -/
def QC : PUnit × MemSt nD τ sig (Elt F) → Prop := fun r =>
  (∀ d : Dev nD, r.2.mem (xLoc d) = m (xLoc d) ∧ r.2.mem (eLoc d) = m (eLoc d) ∧ r.2.mem (wLoc d) = m (wLoc d) ∧ r.2.mem (bLoc d) = m (bLoc d)
    ∧ Out m (Scores m) d (r.2.mem (oLoc d))) ∧ r.2.sem = fun _ => 0

/-- The kernel's run over any float values, from indices that are rows of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (Scores m)) (A := ∅) facts v₀
    (fun q hq => match q with | 0 => nomatch hq)
    (fun q _ => match q with | 0 => tileObl m (Scores m) facts hpre)
    (fun q _ => match q with | 0 => SparseCore.Cfg.VecSplit.of_plain (vecSplit m (Scores m)))
    m ρ main (fun d => G (F := F) d) (FIN m) (u₀ (F := F)) (sep_elim_left.trans (hu₀ m (Scores m))) (hmain m ρ) (fq m) (hfin m) (QC m) (fun _ h hz => ⟨h, hz⟩)

end Cert.Proof.Pool

end
-- ==== Proof.Printed.lean ====
/-
  The kernel as printed: the run proved of its idealization, over the machine's own floats and with the named constant
  read as its literal, is the printed kernel's run.
-/
module

public import proofs.«01_k».proof.Proof.Main
public import proofs.«01_k».proof.Proof.Gen.Kernel

@[expose] public section

noncomputable section

namespace Cert.Proof.Pool

open Idealize.ShloMosaic Idealize.SL.Sem

/-- Over the machine's floats a named constant is its literal. -/
@[reducible] def namedBits : Named Bits := ⟨fun _ _ {φ} b => Scalar.ofBits φ b⟩
attribute [local instance] namedBits

/-- The two programs' kernel bodies are the same programs. -/
theorem bodies_eq : Cert.Kernel.defs₀ (F := Bits) = Cert.KernelIdeal.defs₀ (F := Bits) := by
  funext p ℓ a
  match p, ℓ, a with
  | .tc, 0, (t, s) => rfl
  | .tc, 1, _ => rfl
  | .scScalar c, 0, _ => rfl
  | .scScalar c, 1, _ => rfl
  | .scVector c s, 0, _ => rfl
  | .scVector c s, 1, _ => rfl

/-- So are their body tables. -/
theorem defs_eq : Cert.Kernel.defs (F := Bits) = Cert.KernelIdeal.defs (F := Bits) := by
  have h (x : Defs Cert.Kernel.nD Cert.Kernel.τ Cert.Kernel.sig (Elt Bits) Cert.Kernel.Λ₀) :
      Cert.Kernel.sc.defs (Pipeline.defs Cert.Kernel.pcfgs x) = Cert.KernelIdeal.sc.defs (Pipeline.defs Cert.KernelIdeal.pcfgs x) := rfl
  exact (h _).trans (congrArg (fun x => Cert.KernelIdeal.sc.defs (Pipeline.defs Cert.KernelIdeal.pcfgs x)) bodies_eq)

/-- So are the threads' programs. -/
theorem threads_eq : Cert.Kernel.threads (F := Bits) = Cert.KernelIdeal.threads (F := Bits) := rfl

/-- The printed kernel's run. -/
theorem run_printed (m : (ℓ : Loc Cert.Kernel.nD Cert.Kernel.τ Cert.Kernel.sig) → Buf (Elt Bits) ℓ) (ρ : Dev Cert.Kernel.nD → PrngReg)
    (h : PreOK (F := Bits) m) :
    θ_run (Cert.Kernel.defs (F := Bits)) (Cert.Kernel.threads (F := Bits)) ⟨m, fun _ => 0, ρ⟩ (QC (F := Bits) m) := by
  rw [defs_eq, threads_eq]
  refine cast ?_ (run_main (F := Bits) m ρ h)
  congr 1

end Cert.Proof.Pool

end
-- ==== Proof.Pre.lean ====
/-
  What the precondition says: every index is a row of the table; over the extended reals, the table and the weights are
  finite.
-/
module

public import proofs.«01_k».proof.Pre_pre
public import proofs.«01_k».proof.Proof.Gen.Pre_pre
public import Idealize.ShloMosaic.Lib.ReduceAll
public import Idealize.ShloMosaic.PureOps.Ideal
public import Idealize.ShloMosaic.PureOps.Ideal.Laws

@[expose] public section

noncomputable section

namespace Cert.Proof.Pre

open Idealize.ShloMosaic Cert.Pre_pre

/-- A number compares below the infinity of its format. -/
abbrev Below {F : FTy → Type} [FloatOps F] (v : F .f32) : Prop :=
  FloatOps.cmpf .olt (FloatOps.hostAbsf v) (Scalar.ofBits (F := F) .f32 0x7F800000#32) = 1#1

instance : Subsingleton S_.Idx := ⟨fun _ _ => funext fun a => a.elim0⟩

/-- A word at least 0 and below 100000 as a signed word is a number below 100000. -/
theorem index_lt (v : BitVec 32) (e : IntOp.andi (IntOp.cmpi .sge v 0#32) (IntOp.cmpi .slt v 100000#32) = 1#1) : v.toNat < 100000 := by
  obtain ⟨h1, h2⟩ := IntOp.andi_eq_one.1 e
  have ofBool_eq_one (p : Bool) : (BitVec.ofBool p = 1#1) ↔ p = true := by cases p <;> decide
  simp only [IntOp.cmpi, ofBool_eq_one, BitVec.sle_eq_decide, BitVec.slt_eq_decide, decide_eq_true_eq,
    BitVec.toInt_eq_toNat_cond, BitVec.toNat_ofNat, Nat.reducePow, Nat.reduceMod] at h1 h2
  omega

/-- The precondition's three conjuncts, elementwise. -/
theorem parts {F : FTy → Type} [FloatOps F] (x : IVec S4096x200 32) (e : FVec F S100000x64 .f32) (w : FVec F S1x64 .f32) (b : FVec F S1 .f32)
    (h : fn (F := F) x e w b = fun _ => 1#1) :
    (∀ j, (x j).toNat < 100000) ∧ (∀ j, Below (e j)) ∧ ∀ j, Below (w j) := by
  have h0 := congrFun h (Shape.Idx.first Gen.h_S_)
  obtain ⟨h1, hw⟩ := IntOp.andi_eq_one.1 h0
  obtain ⟨hx, he⟩ := IntOp.andi_eq_one.1 h1
  exact ⟨fun j => index_lt _ (Host.reduce_andi_all _ _ _ _ _ hx j), fun j => Host.reduce_andi_all _ _ _ _ _ he j,
    fun j => Host.reduce_andi_all _ _ _ _ _ hw j⟩

/-- Over the extended reals such a number is a real one. -/
theorem real_of_below (v : Ideal .f32) (h : Below v) : ∃ r : ℝ, (v : EReal) = (r : EReal) := by
  have htop : Ideal.ofBits .f32 0x7F800000#32 = ⊤ := by simp [Ideal.ofBits, Ideal.ieee]
  have h' : Ideal.cmp .olt (max (v : EReal) (-(v : EReal))) (Ideal.ofBits .f32 0x7F800000#32) = 1#1 := h
  rw [htop] at h'
  induction v using EReal.rec with
  | bot => simp [Ideal.cmp] at h'
  | top => simp [Ideal.cmp] at h'
  | coe r => exact ⟨r, rfl⟩

end Cert.Proof.Pre

end
-- ==== Proof.Frames.lean ====
/-
  The runs that say nothing of a value: the kernel's, its idealization's and the reference's.
-/
module

public import proofs.«01_k».proof.Defs
public import proofs.«01_k».proof.Proof.Printed
public import proofs.«01_k».proof.Proof.Pre
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof.Pool

open Idealize.ShloMosaic Idealize.SL.Sem

attribute [local instance] namedBits

/-- The precondition over the machine's floats gives what the run asks. -/
theorem ok_printed (m : (ℓ : Loc Cert.Kernel.nD Cert.Kernel.τ Cert.Kernel.sig) → Buf (Elt Bits) ℓ) (h : Cert.Pre_Kernel m) :
    PreOK (F := Bits) m := fun d => (Pre.parts _ _ _ _ (h d)).1

/-- The precondition over the extended reals gives what the run asks. -/
theorem ok_ideal (m : (ℓ : Loc Cert.KernelIdeal.nD Cert.KernelIdeal.τ Cert.KernelIdeal.sig) → Buf (Elt Ideal) ℓ) (h : Cert.Pre_KernelIdeal m) :
    PreOK (F := Ideal) m := fun d => (Pre.parts _ _ _ _ (h d)).1

/-- The printed kernel runs, leaves its arguments and every counter as they were. -/
theorem frame_kernel : Cert.quiescent_Kernel := fun m ρ hpre =>
  (θ_run Cert.Kernel.defs _ _).mono (fun _ h => ⟨fun c => ⟨(h.1 c).1, (h.1 c).2.1, (h.1 c).2.2.1, (h.1 c).2.2.2.1⟩, h.2⟩)
    (run_printed m ρ (ok_printed m hpre))

/-- So does its idealization. -/
theorem frame_ideal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩)
    (run_main (F := Ideal) m ρ (ok_ideal m hpre))

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Pool

end
-- ==== Proof.KernelValue.lean ====
/-
  The kernel's result at the ideal values, read at an index: the sigmoid of the mean of the scores of the named rows.
-/
module

public import proofs.«01_k».proof.Defs
public import proofs.«01_k».proof.Proof.Region
public import Idealize.ShloMosaic.Lib.Pointwise

@[expose] public section

noncomputable section

namespace Cert.Proof.Pool

open Idealize.ShloMosaic Idealize.SL.Sem
open Cert.KernelIdeal Cert.KernelIdeal.Gen

/-- The one index of the bias. -/
theorem i₀_eq : i₀ = ix1 0 := funext fun a => match a with | 0 => Subsingleton.elim (α := Fin 1) _ _

/-- A column's score: its product by the weights, plus the bias. -/
theorem score_apply (X : Vec Ideal S64x25600 .f32) (W : Vec Ideal S1x64 .f32) (b : S1.Idx → Ideal .f32) (j : Fin 25600) :
    blockScores (F := Ideal) X W b (ix1 j) = ∑ k : Fin 64, W (ix2 0 k) * X (ix2 k j) + b (ix1 0) := by
  pointwise [blockScores, k0_pay1]
  rw [i₀_eq]

/-- What is stored of a total: the sigmoid of a two-hundredth of it. -/
theorem sigm_apply (a : FVec Ideal S16 .f32) (j : S16.Idx) :
    sigm (F := Ideal) a j = Ideal.div 1 (1 + Ideal.exp (-(a j * ((1 / 200 : ℝ) : EReal)))) := by
  have e : (Named.named (F := Ideal) κ "inv_l" 0x3BA3D70A#32 : Ideal .f32) = ((1 / 200 : ℝ) : EReal) :=
    IdealRules.named_const.ideal_named_scalar _ _ _ _ rfl
  pointwise [sigm, k1_pay71]
  rw [e, zero_sub]

/-- A running sum is a sum. -/
theorem acc_apply (s : S100000.Idx → Elt Ideal .f32) (X : S25x8x128.Idx → Elt Ideal .i32) (n g : ℕ) (x : S16.Idx) :
    acc (F := Ideal) s X n g x = ∑ r : Fin n, gat (F := Ideal) s X (r.val / 8) (r.val % 8) g x := by
  induction n with
  | zero =>
    rw [acc_zero]
    pointwise [k1_pay62]
    rfl
  | succ n ih =>
    rw [acc_succ, Fin.sum_univ_castSucc]
    pointwise
    rw [ih]
    rfl

variable (m : (ℓ : Loc nD τ sig) → Buf (Elt Ideal) ℓ)

/-- The table, the weights and the bias as extended reals. -/
abbrev table (d : Dev nD) : S100000x64.Idx → EReal := m (eLoc d)
abbrev weight (d : Dev nD) : S1x64.Idx → EReal := m (wLoc d)
abbrev bias (d : Dev nD) : S1.Idx → EReal := m (bLoc d)

/-- The reshaped indices: bag `i`'s index number `8 t + l` stands at `(t, l, i)`. -/
theorem X3_apply (d : Dev nD) (t : Fin 25) (l : Fin 8) (i : Fin 4096) (r : Fin 200) (h : r.val = 8 * t.val + l.val) :
    X3 m d (ix3 t l i) = m (xLoc d) (ix2 i r) := by
  pointwise [X3, XT]
  exact congrArg (fun r => m (xLoc d) (ix2 i r)) (Fin.ext (by show t.val * 8 + l.val = r.val; omega))

/-- The transposed table. -/
theorem ET_apply (d : Dev nD) (k : Fin 64) (v : Fin 100000) : ET m d (ix2 k v) = m (eLoc d) (ix2 v k) := by
  pointwise [ET]

/-- A row's score, from the four blocks the first region writes. -/
theorem scores_apply (d : Dev nD) (s : S100000.Idx → Elt Ideal .f32) (h : Scores m d s) (v : Fin 100000) :
    s (ix1 v) = ∑ k : Fin 64, weight m d (ix2 0 k) * table m d (ix2 v k) + bias m d (ix1 0) := by
  obtain ⟨X, ⟨Y, hY, rfl⟩, hX⟩ := h (v.val / 25600) (by omega)
  rw [hX (ix1 ⟨v.val % 25600, Nat.mod_lt _ (by decide)⟩) (ix1 v) (Nat.div_add_mod _ _).symm, score_apply]
  refine congrArg (· + bias m d (ix1 0)) (Finset.sum_congr rfl fun k _ => congrArg (weight m d (ix2 0 k) * ·) ?_)
  rw [hY (ix2 k ⟨v.val % 25600, Nat.mod_lt _ (by decide)⟩) (ix2 k v) rfl (Nat.div_add_mod _ _).symm, ET_apply]

/-- A tile's index block: row `(r / 8, r % 8)` holds index number `r` of the tile's bags. -/
theorem slab_apply (d : Dev nD) (p : Fin 2 × Fin 16) (r : Fin 200) (j : ℕ) (hj : j < 128) (i : Fin 4096)
    (hi : i.val = 256 * p.2.val + 128 * p.1.val + j) :
    (xSlab (coordsV p.1 p.2)).view.read (Elt Ideal) (X3 m d) (ixX (r.val / 8) (r.val % 8) j) = m (xLoc d) (ix2 i r) := by
  have e := k1_off1_eq (coordsV p.1 p.2)
  rw [← X3_apply m d ⟨r.val / 8, by omega⟩ ⟨r.val % 8, by omega⟩ i r (Nat.div_add_mod _ _).symm]
  refine congrArg (X3 m d) (funext fun a => Fin.ext ?_)
  match a with
  | 0 =>
    show k1_off1 (coordsV p.1 p.2) 0 + 1 * (r.val / 8 % 25) = r.val / 8
    rw [show k1_off1 (coordsV p.1 p.2) 0 = 0 from congrFun e 0]; omega
  | 1 =>
    show k1_off1 (coordsV p.1 p.2) 1 + 1 * (r.val % 8 % 8) = r.val % 8
    rw [show k1_off1 (coordsV p.1 p.2) 1 = 0 from congrFun e 1]; omega
  | 2 =>
    show k1_off1 (coordsV p.1 p.2) 2 + 1 * (j % 128) = i.val
    rw [show k1_off1 (coordsV p.1 p.2) 2 = 256 * p.2.val + 128 * p.1.val from congrFun e 2]; omega

/-- The kernel's result for bag `i`: the sigmoid of the mean of the scores of the bag's rows. -/
theorem result_apply (hx : PreOK (F := Ideal) m) (d : Dev nD) (f : Buf (Elt Ideal) (oLoc d)) (h : Out m (Scores m) d f) (i : Fin 4096) :
    f (ix1 i) = Ideal.div 1 (1 + Ideal.exp (-((∑ r : Fin 200,
      (∑ k : Fin 64, weight m d (ix2 0 k) * table m d (ix2 ⟨BitVec.toNat (m (xLoc d) (ix2 i r)), hx d _⟩ k) + bias m d (ix1 0)))
        * ((1 / 200 : ℝ) : EReal)))) := by
  let p : Fin 2 × Fin 16 := (⟨i.val / 128 % 2, by omega⟩, ⟨i.val / 256, by omega⟩)
  obtain ⟨s, hs, ht⟩ := h p
  have e := k1_off66_eq (coordsV p.1 p.2)
  have hi : i.val = 256 * p.2.val + 128 * p.1.val + i.val % 128 := by
    show i.val = 256 * (i.val / 256) + 128 * (i.val / 128 % 2) + i.val % 128; omega
  have hj := ht (ix1 ⟨i.val % 128, Nat.mod_lt _ (by decide)⟩)
  rw [show (oBlk (coordsV p.1 p.2)).view.emb (ix1 ⟨i.val % 128, Nat.mod_lt _ (by decide)⟩) = ix1 i from funext fun a => Fin.ext (by
    match a with
    | 0 =>
      show k1_off66 (coordsV p.1 p.2) 0 + 1 * (i.val % 128) = i.val
      rw [show k1_off66 (coordsV p.1 p.2) 0 = 256 * p.2.val + 128 * p.1.val from congrFun e 0]; omega)] at hj
  rw [hj]
  unfold tileOut
  rw [sigm_apply, acc_apply]
  refine congrArg (fun z => Ideal.div 1 (1 + Ideal.exp (-(z * ((1 / 200 : ℝ) : EReal))))) (Finset.sum_congr rfl fun r _ => ?_)
  rw [← scores_apply m d s hs]
  unfold gat
  have hr := slab_apply m d p r (16 * (i.val % 128 / 16) + i.val % 128 % 16 % 16) (by omega) i (by omega)
  refine congrArg s (funext fun a => Fin.ext ?_)
  match a with
  | 0 =>
    show BitVec.toNat ((xSlab (coordsV p.1 p.2)).view.read (Elt Ideal) (X3 m d)
      (ixX (r.val / 8) (r.val % 8) (16 * (i.val % 128 / 16) + i.val % 128 % 16 % 16))) % 100000 = BitVec.toNat (m (xLoc d) (ix2 i r))
    rw [hr]
    exact Nat.mod_eq_of_lt (hx d _)

end Cert.Proof.Pool

end
-- ==== Proof.RefValue.lean ====
/-
  The reference's result at the ideal values, read at an index: the sigmoid of the product of the mean of the named rows of
  the table by the weights, plus the bias.
-/
module

public import proofs.«01_k».proof.Defs
public import proofs.«01_k».proof.Proof.Gen.ReferenceIdeal
public import Idealize.ShloMosaic.Lib.Pointwise
public import Idealize.ShloMosaic.Lib.ReduceAll

@[expose] public section

noncomputable section

namespace Cert.Proof.Ref

open Idealize.ShloMosaic Idealize.SL.Sem
open Cert.ReferenceIdeal Cert.ReferenceIdeal.Facts₀ Cert.ReferenceIdeal.Facts

/-! ## A gather of whole rows, at any extent -/

/-- The dimension numbers of `table[idx]`, `table` an array `[N, C]` and `idx` an array of row numbers `[A, B, 1]`. -/
abbrev rowDims (N C A B : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Element `(a, b, c)` of that gather is column `c` of the row that `idx[a, b, 0]` names, the number read signed and
    clamped into the table. -/
theorem gather_rows {α : Type} {N C A B : ℕ} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ 32) (a : Fin A) (b : Fin B) (c : Fin C) :
    Host.gather (rowDims N C A B wf) x idx (ix3 a b c) = x (ix2 ⟨min (idx (ix3 a b 0)).toInt.toNat (N - 1), by omega⟩ c) := by
  unfold Host.gather
  refine congrArg x (funext fun k => Fin.ext ?_)
  show (rowDims N C A B wf).start (ix3 a b c) idx k + (rowDims N C A B wf).batchCoord (ix3 a b c) k
      + (rowDims N C A B wf).offCoord (ix3 a b c) k = _
  rw [GatherDims.batchCoord_eq_zero _ _ _ List.not_mem_nil]
  have h01 : k = 0 ∨ k = 1 := by
    match k with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C A B wf).startIndexMap from List.mem_singleton.mpr rfl)]
    have e : (rowDims N C A B wf).siIdx (ix3 a b c) ⟨List.idxOf (0 : Fin 2) (rowDims N C A B wf).startIndexMap,
        List.idxOf_lt_length_iff.2 (List.mem_singleton.mpr rfl)⟩ = ix3 a b 0 := by
      funext n; refine Fin.ext ?_
      match n with
      | ⟨0, _⟩ => rfl
      | ⟨1, _⟩ => rfl
      | ⟨2, _⟩ => rfl
    exact congrArg (fun i => min (idx i).toInt.toNat (N - 1)) e
  · unfold GatherDims.start
    rw [dif_neg (fun h => absurd (List.mem_singleton.mp h) (Fin.ne_of_val_ne Nat.one_ne_zero))]
    show 0 + 0 + (rowDims N C A B wf).offCoord (ix3 a b c) 1 = c.val
    unfold GatherDims.offCoord
    rw [dif_pos ((GatherDims.mem_sKept _ _).mpr ⟨fun h => absurd (List.mem_singleton.mp h) (Fin.ne_of_val_ne Nat.one_ne_zero), List.not_mem_nil⟩)]
    simp only [Nat.zero_add]
    rfl

/-! ## The words -/

section

variable (v : BitVec 32) (h : v.toNat < 100000)

include h

/-- Read signed, a word in range is its number. -/
theorem word_toInt : v.toInt = v.toNat := BitVec.toInt_eq_toNat_of_lt (by omega)

/-- A word in range is not negative. -/
theorem not_negative : IntOp.cmpi .slt v 0#32 = 0#1 := by
  have e := word_toInt v h
  simp only [IntOp.cmpi, BitVec.slt, e, BitVec.toInt_zero]; rw [decide_eq_false (by omega)]; rfl

/-- A word in range is at least zero. -/
theorem at_least : IntOp.cmpi .sge v 0#32 = 1#1 := by
  have e := word_toInt v h
  simp [IntOp.cmpi, BitVec.sle, e]

/-- A word in range is at most the last row's number. -/
theorem at_most : IntOp.cmpi .sle v 99999#32 = 1#1 := by
  have e := word_toInt v h
  have e' : (99999#32 : BitVec 32).toInt = 99999 := by decide
  simp only [IntOp.cmpi, BitVec.sle, e, e']; rw [decide_eq_true (by omega)]; rfl

end

/-- The reference divides by two hundred. -/
theorem two_hundred : Ideal.ofBits .f32 0x43480000#32 = ((200 : ℝ) : EReal) := by
  simp [Ideal.ofBits, Ideal.ieee, -EReal.coe_mul]; norm_num

/-! ## The reference's term -/

variable (x : IVec S4096x200 32) (e : FVec Ideal S100000x64 .f32) (w : FVec Ideal S1x64 .f32) (b : FVec Ideal S1 .f32)

/-- The indices, a negative one counted from the table's end. -/
def wrapped : IVec S4096x200 32 :=
  select (cmpi .slt x (broadcastInDim S4096x200 ![] bcast_S_S4096x200 (constantI S_ 32 0#32))) (addi x (broadcastInDim S4096x200 ![] bcast_S_S4096x200 (constantI S_ 32 100000#32))) x

/-- The indices as starts of the gather. -/
def starts : IVec S4096x200x1 32 :=
  broadcastInDim S4096x200x1 ![0, 1] bcast_S4096x200_S4096x200x1_0_1 (wrapped x)

/-- Which indices name a row of the table. -/
def inside : IVec S4096x200 1 :=
  Host.reduce IntOp.andi (andi (cmpi .sge (starts x) (broadcastInDim S4096x200x1 ![] bcast_S_S4096x200x1 (constantI S_ 32 0#32))) (cmpi .sle (starts x) (broadcastInDim S4096x200x1 ![0, 1, 2] bcast_S1x1x1_S4096x200x1_0_1_2 (broadcastInDim S1x1x1 ![2] bcast_S1_S1x1x1_2 (constantI S1 32 99999#32))))) (constantI S_ 1 1#1) reducesTo_S4096x200x1_S4096x200_d2 h_S_

/-- The rows taken, NaN for an index past the table. -/
def rows : FVec Ideal S4096x200x64 .f32 :=
  select (broadcastInDim S4096x200x64 ![0, 1] bcast_S4096x200_S4096x200x64_0_1 (inside x)) (Host.gather gather_S100000x64_S4096x200x1_S4096x200x64_2_0_n_n_0_2_164 e (starts x)) (broadcastInDim S4096x200x64 ![] bcast_S_S4096x200x64 (constant S_ .f32 0x7FC00000#32))

/-- The reference's result. -/
def out : FVec Ideal S4096 .f32 :=
  shapeCast _ (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x64_S64x1_S4096x1_1_0_0_1_n_n none (Host.divf (Host.reduceAdd (rows x e) (constant S_ .f32 0x00000000#32) reducesTo_S4096x200x64_S4096x64_d1 h_S_) (broadcastInDim S4096x64 ![] bcast_S_S4096x64 (constant S_ .f32 0x43480000#32))) (transpose S64x1 [1, 0] w transposes_S1x64_S64x1_1_0)) (broadcastInDim S4096x1 ![0, 1] bcast_S1x1_S4096x1_0_1 (broadcastInDim S1x1 ![1] bcast_S1_S1x1_1 b))))))) shapeCasts_S4096x1_S4096

section

variable (hx : ∀ j, (x j).toNat < 100000)

include hx

/-- An index in range is kept. -/
theorem wrapped_eq : wrapped x = x := by
  funext j
  pointwise [wrapped]
  rw [not_negative _ (hx j)]
  rfl

/-- Every index names a row. -/
theorem inside_eq : inside x = fun _ => 1#1 := by
  funext j
  refine Host.reduce_andi_one _ _ _ _ _ rfl fun i => ?_
  idx_vars i
  pointwise [starts]
  rw [wrapped_eq x hx, at_least _ (hx _), at_most _ (hx _)]
  rfl

/-- The rows taken are the rows named. -/
theorem rows_apply (i : Fin 4096) (l : Fin 200) (d : Fin 64) :
    rows x e (ix3 i l d) = e (ix2 ⟨(x (ix2 i l)).toNat, hx _⟩ d) := by
  unfold rows
  rw [inside_eq x hx]
  pointwise
  refine (gather_rows (by decide) _ e (starts x) i l d).trans (congrArg e (congrArg (ix2 · d) (Fin.ext ?_)))
  show min (starts x (ix3 i l 0)).toInt.toNat (100000 - 1) = (x (ix2 i l)).toNat
  have hs : starts x (ix3 i l 0) = x (ix2 i l) := by
    pointwise [starts]
    rw [wrapped_eq x hx]
  have hi := hx (ix2 i l)
  rw [hs, word_toInt _ hi]
  omega

/-- The reference's result for bag `i`: the sigmoid of the score of the mean of the bag's rows. -/
theorem out_apply (i : Fin 4096) :
    out x e w b (ix1 i) = Ideal.div 1 (1 + Ideal.exp (-(∑ d : Fin 64,
      (∑ l : Fin 200, e (ix2 ⟨(x (ix2 i l)).toNat, hx _⟩ d)) * ((1 / 200 : ℝ) : EReal) * w (ix2 0 d) + b (ix1 0)))) := by
  pointwise [out]
  simp only [rows_apply x e hx]
  have key : ∀ z : EReal, Ideal.div z (Ideal.ofBits .f32 0x43480000#32) = z * ((1 / 200 : ℝ) : EReal) := fun z => by
    rw [two_hundred, Ideal.div_coe (by norm_num : (200 : ℝ) ≠ 0)]
  exact congrArg (fun z => Ideal.div 1 (1 + Ideal.exp (-(z + b (ix1 0)))))
    (Finset.sum_congr rfl fun d _ => congrArg (· * w (ix2 0 d)) (key _))

end

end Cert.Proof.Ref

end
-- ==== Proof.Algebra.lean ====
/-
  The equation between the kernel's mean of scores and the reference's score of the mean row, over the extended reals.
-/
module

public import Mathlib.Data.EReal.Operations
public import Idealize.ShloMosaic.Lib.Pointwise

@[expose] public section

noncomputable section

namespace Cert.Proof.Algebra

/-- A sum of reals taken among the extended reals. -/
theorem coe_sum {ι : Type} (s : Finset ι) (f : ι → ℝ) : ((∑ i ∈ s, f i : ℝ) : EReal) = ∑ i ∈ s, (f i : EReal) := by
  classical
  refine Finset.induction_on s (by simp) fun a t ha ih => ?_
  rw [Finset.sum_insert ha, Finset.sum_insert ha, EReal.coe_add, ih]

/-- A nonempty sum of reals, each with `⊤` added, is `⊤`. -/
theorem sum_add_top {n : ℕ} (f : Fin (n + 1) → ℝ) : ∑ i, ((f i : EReal) + ⊤) = ⊤ := by
  induction n with
  | zero => simp
  | succ n ih => rw [Fin.sum_univ_succ, ih fun i => f i.succ]; simp

/-- A nonempty sum of reals, each with `⊥` added, is `⊥`. -/
theorem sum_add_bot {n : ℕ} (f : Fin (n + 1) → ℝ) : ∑ i, ((f i : EReal) + ⊥) = ⊥ := by
  rw [Fin.sum_univ_succ]; simp

/-- The mean over the rows of the scores `∑ d, w d * e l d + b` is the score of the mean row: for real rows and weights and
    any bias, infinite ones included. -/
theorem mean_score (e : Fin 200 → Fin 64 → ℝ) (w : Fin 64 → ℝ) (b : EReal) :
    (∑ l, (∑ d, (w d : EReal) * (e l d : EReal) + b)) * ((1 / 200 : ℝ) : EReal)
      = ∑ d, (∑ l, (e l d : EReal)) * ((1 / 200 : ℝ) : EReal) * (w d : EReal) + b := by
  have hL : ∀ l, ∑ d, (w d : EReal) * (e l d : EReal) = ((∑ d, w d * e l d : ℝ) : EReal) := fun l => by
    rw [coe_sum]; exact Finset.sum_congr rfl fun d _ => (EReal.coe_mul _ _).symm
  have hR : ∑ d, (∑ l, (e l d : EReal)) * ((1 / 200 : ℝ) : EReal) * (w d : EReal)
      = ((∑ d, (∑ l, e l d) * (1 / 200) * w d : ℝ) : EReal) := by
    rw [coe_sum]
    exact Finset.sum_congr rfl fun d _ => by rw [EReal.coe_mul, EReal.coe_mul, coe_sum]
  simp only [hL]
  rw [hR]
  have hpos : (0 : ℝ) < 1 / 200 := by norm_num
  induction b with
  | bot => rw [sum_add_bot (n := 199) fun l => ∑ d, w d * e l d, EReal.bot_mul_coe_of_pos hpos, EReal.add_bot]
  | top => rw [sum_add_top (n := 199) fun l => ∑ d, w d * e l d, EReal.top_mul_coe_of_pos hpos, EReal.coe_add_top]
  | coe b =>
    simp only [← EReal.coe_add]
    rw [← coe_sum, ← EReal.coe_mul, EReal.coe_eq_coe_iff, Finset.sum_add_distrib, Finset.sum_comm, Finset.sum_const, Finset.card_univ,
      Fintype.card_fin, add_mul, Finset.sum_mul]
    congr 1
    · refine Finset.sum_congr rfl fun d _ => ?_
      rw [← Finset.mul_sum]; ring
    · simp only [nsmul_eq_mul, Nat.cast_ofNat]; ring

end Cert.Proof.Algebra

end
-- ==== Proof.Agree.lean ====
/-
  The kernel's result is the reference's, over the extended reals.
-/
module

public import proofs.«01_k».proof.Defs
public import proofs.«01_k».proof.Proof.Frames
public import proofs.«01_k».proof.Proof.KernelValue
public import proofs.«01_k».proof.Proof.RefValue
public import proofs.«01_k».proof.Proof.Algebra

@[expose] public section

noncomputable section

namespace Cert.Proof.Pool

open Idealize.ShloMosaic Idealize.SL.Sem

attribute [local instance] namedBits

/-- The reference's run stays within the kernel's precondition as without it. -/
theorem frame_reference_pre : Cert.quiescent_ReferenceIdeal_pre_pre := fun m ρ _ => frame_reference m ρ trivial

variable (m : (ℓ : Loc Cert.KernelIdeal.nD Cert.KernelIdeal.τ Cert.KernelIdeal.sig) → Buf (Elt Ideal) ℓ)

/-- The reference's result on the kernel's arguments. -/
def expected (d : Dev Cert.KernelIdeal.nD) : Buf (Elt Ideal) (oLoc d) :=
  Ref.out (m (xLoc d)) (m (eLoc d)) (m (wLoc d)) (m (bLoc d))

/-- What the kernel leaves is that result. -/
theorem result_eq (hpre : Cert.Pre_KernelIdeal m) (d : Dev Cert.KernelIdeal.nD) (f : Buf (Elt Ideal) (oLoc d))
    (h : Out (F := Ideal) m (Scores m) d f) : f = expected m d := by
  have hx := ok_ideal m hpre
  obtain ⟨-, he, hw⟩ := Pre.parts _ _ _ _ (hpre d)
  choose e he using fun j => Pre.real_of_below _ (he j)
  choose w hw using fun j => Pre.real_of_below _ (hw j)
  have hE : table m d = fun j => (e j : EReal) := funext he
  have hW : weight m d = fun j => (w j : EReal) := funext hw
  funext j
  rw [show j = ix1 (j 0) from eq_ix1 j]
  refine (result_apply m hx d f h (j 0)).trans (Eq.trans ?_ (Ref.out_apply _ _ _ _ (hx d) (j 0)).symm)
  refine congrArg (fun z => Ideal.div 1 (1 + Ideal.exp (-z))) ?_
  show _ = ∑ k : Fin 64, (∑ l : Fin 200, table m d (ix2 ⟨BitVec.toNat (m (xLoc d) (ix2 (j 0) l)), hx d _⟩ k))
    * ((1 / 200 : ℝ) : EReal) * weight m d (ix2 0 k) + bias m d (ix1 0)
  rw [hE, hW]
  exact Algebra.mean_score (fun l k => e (ix2 ⟨BitVec.toNat (m (xLoc d) (ix2 (j 0) l)), hx d _⟩ k)) (fun k => w (ix2 0 k)) _

/-- The kernel and the reference end with the same result, from the same arguments. -/
theorem agrees : Cert.algebraic_KernelIdeal_ReferenceIdeal := fun m g m' g' hpre hm =>
  ⟨expected m,
    (θ_run Cert.KernelIdeal.defs _ _).mono
      (fun _ h c => ⟨result_eq m hpre c _ (h.1 c).2.2.2.2, (h.1 c).1, (h.1 c).2.1, (h.1 c).2.2.1, (h.1 c).2.2.2.1⟩)
      (run_main (F := Ideal) m g (ok_ideal m hpre)),
    (θ_run Cert.ReferenceIdeal.defs _ _).mono
      (fun _ h c => ⟨(h c).1.trans (by
        rw [(hm c).1, (hm c).2.1, (hm c).2.2.1, (hm c).2.2.2]
        rfl), (h c).2⟩)
      (Cert.ReferenceIdeal.Value.run (F := Ideal) m' g')⟩

end Cert.Proof.Pool

end
-- ==== Proof.lean ====
/-
  The proof of `Cert.Claim`: the three runs, the idealization's one rewrite, and the kernel's result against the
  reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_pre
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The idealization's one rewrite: the constant 1/200 stands for its rounded literal. -/
theorem preserves : Cert.preserves_Kernel_KernelIdeal :=
  ⟨rfl, fun _ => IdealRules.named_const.ideal_named _ _ _ _ rfl, IdealRules.named_const.ideal_named_scalar _ _ _ _ rfl⟩

/-- Everything the certificate claims. -/
theorem claim : Cert.Claim := ⟨Cert.Kernel.Gen.facts, Cert.KernelIdeal.Gen.facts, Cert.ReferenceIdeal.Gen.facts, Cert.Pre_pre.Gen.facts,
  Pool.frame_kernel, Pool.frame_ideal, Pool.frame_reference, Pool.frame_reference_pre, preserves, Pool.agrees⟩

end Cert.Proof

end
